-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.blockN ⟨4, ![2, 512, 8, 64]⟩ ⟨4, ![2, 1024, 8, 64]⟩ (Layout.meshBlock [2, 2, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 × IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  (main_v2, main_v5)
-- ==== Pre_finite_qk_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)

variable [Facts]

def fn {F : FTy → Type} [FloatOps F] (main_arg0 : FVec F S2x1024x8x64 .bf16) (main_arg1 : FVec F S2x1024x8x64 .bf16) (main_arg2 : FVec F S2x1024x8x64 .bf16) : IVec S2x1024x8x64 1 × IVec S2x1024x8x64 1 :=
  let main_v0 : FVec F S2x1024x8x64 .bf16 := Host.absf main_arg0
  let main_cst : FVec F S_ .bf16 := constant S_ .bf16 0x7F80#16
  let main_v1 : FVec F S2x1024x8x64 .bf16 := broadcastInDim S2x1024x8x64 ![] bcast_S_S2x1024x8x64 main_cst
  let main_v2 : IVec S2x1024x8x64 1 := cmpf .olt main_v0 main_v1
  let main_v3 : FVec F S2x1024x8x64 .bf16 := Host.absf main_arg1
  let main_cst_0 : FVec F S_ .bf16 := constant S_ .bf16 0x7F80#16
  let main_v4 : FVec F S2x1024x8x64 .bf16 := broadcastInDim S2x1024x8x64 ![] bcast_S_S2x1024x8x64 main_cst_0
  let main_v5 : IVec S2x1024x8x64 1 := cmpf .olt main_v3 main_v4
  (main_v2, main_v5)
-- ==== Kernel.lean ====
abbrev S2x512x8x64 : Shape := ⟨4, ![2, 512, 8, 64]⟩
abbrev S2x8x64x512 : Shape := ⟨4, ![2, 8, 64, 512]⟩
abbrev S2x2x8x64x512 : Shape := ⟨5, ![2, 2, 8, 64, 512]⟩
abbrev S8 : Shape := ⟨1, ![8]⟩
abbrev S_ : Shape := ⟨0, ![]⟩
abbrev S1x8x64x512 : Shape := ⟨4, ![1, 8, 64, 512]⟩
abbrev S8x64x512 : Shape := ⟨3, ![8, 64, 512]⟩
abbrev S1x1x8x64x512 : Shape := ⟨5, ![1, 1, 8, 64, 512]⟩
abbrev S1 : Shape := ⟨1, ![1]⟩
abbrev S1x1x2x64x512 : Shape := ⟨5, ![1, 1, 2, 64, 512]⟩
abbrev S2x64x512 : Shape := ⟨3, ![2, 64, 512]⟩
abbrev S1x1x64x512 : Shape := ⟨4, ![1, 1, 64, 512]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S1x1x1x64x512 : Shape := ⟨5, ![1, 1, 1, 64, 512]⟩

abbrev nBuf : Space → Nat
  | .hbm => 8
  | .vmem => 6
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x8x64x512, .bf16⟩
  | .hbm, ⟨4, _⟩ => ⟨S2x8x64x512, .bf16⟩
  | .hbm, ⟨5, _⟩ => ⟨S2x8x64x512, .bf16⟩
  | .hbm, ⟨6, _⟩ => ⟨S2x8x64x512, .f32⟩
  | .hbm, ⟨7, _⟩ => ⟨S2x512x8x64, .f32⟩
  | .local _ .vmem, ⟨0, _⟩ => ⟨S2x8x64x512, .bf16⟩
  | .local _ .vmem, ⟨1, _⟩ => ⟨S2x8x64x512, .bf16⟩
  | .local _ .vmem, ⟨2, _⟩ => ⟨S2x8x64x512, .bf16⟩
  | .local _ .vmem, ⟨3, _⟩ => ⟨S2x8x64x512, .f32⟩
  | .local _ .vmem, ⟨4, _⟩ => ⟨S2x2x8x64x512, .bf16⟩
  | .local _ .vmem, ⟨5, _⟩ => ⟨S2x2x8x64x512, .fp8e4m3⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 5 → Nat :=
  let c1_i32_49 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_56 : BitVec 32 := 0#32
  let c0_i32_57 : BitVec 32 := 0#32
  let c0_i32_58 : BitVec 32 := 0#32
  ![1, v5.toNat, 0, 0, 0]
def k0_off2 (d0 : Dev nD) : Fin 5 → Nat :=
  let c0_i32_48 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_59 : BitVec 32 := 0#32
  let c0_i32_60 : BitVec 32 := 0#32
  let c0_i32_61 : BitVec 32 := 0#32
  ![0, v5.toNat, 0, 0, 0]
def k0_dev3 (d0 : Dev nD) : Nat :=
  let c0_i32_53 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_52 : BitVec 32 := 8#32
  let v46 : BitVec 32 := Scalar.muli v9 c8_i32_52
  let v47 : BitVec 32 := Scalar.addi c0_i32_53 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v48 : BitVec 32 := Scalar.muli v5 c4_i32_54
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v50 : BitVec 32 := Scalar.muli v8 c1_i32_55
  let v51 : BitVec 32 := Scalar.addi v49 v50
  v51.toNat
def k0_dev4 (d0 : Dev nD) : Nat :=
  let c0_i32_67 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_66 : BitVec 32 := 8#32
  let v60 : BitVec 32 := Scalar.muli v9 c8_i32_66
  let v61 : BitVec 32 := Scalar.addi c0_i32_67 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v62 : BitVec 32 := Scalar.muli v5 c4_i32_68
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v64 : BitVec 32 := Scalar.muli v8 c1_i32_69
  let v65 : BitVec 32 := Scalar.addi v63 v64
  v65.toNat
def k0_off3 (d0 : Dev nD) : Fin 5 → Nat :=
  let c1_i32_77 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_84 : BitVec 32 := 2#32
  let c0_i32_85 : BitVec 32 := 0#32
  let c0_i32_86 : BitVec 32 := 0#32
  ![1, v5.toNat, 2, 0, 0]
def k0_off4 (d0 : Dev nD) : Fin 5 → Nat :=
  let c0_i32_76 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_87 : BitVec 32 := 2#32
  let c0_i32_88 : BitVec 32 := 0#32
  let c0_i32_89 : BitVec 32 := 0#32
  ![0, v5.toNat, 2, 0, 0]
def k0_dev5 (d0 : Dev nD) : Nat :=
  let c0_i32_81 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_80 : BitVec 32 := 8#32
  let v74 : BitVec 32 := Scalar.muli v9 c8_i32_80
  let v75 : BitVec 32 := Scalar.addi c0_i32_81 v74
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v76 : BitVec 32 := Scalar.muli v5 c4_i32_82
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v78 : BitVec 32 := Scalar.muli v8 c1_i32_83
  let v79 : BitVec 32 := Scalar.addi v77 v78
  v79.toNat
def k0_dev6 (d0 : Dev nD) : Nat :=
  let c0_i32_94 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_93 : BitVec 32 := 8#32
  let v88 : BitVec 32 := Scalar.muli v9 c8_i32_93
  let v89 : BitVec 32 := Scalar.addi c0_i32_94 v88
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_95 : BitVec 32 := 4#32
  let v90 : BitVec 32 := Scalar.muli v5 c4_i32_95
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v92 : BitVec 32 := Scalar.muli v8 c1_i32_96
  let v93 : BitVec 32 := Scalar.addi v91 v92
  v93.toNat
def k0_off5 (d0 : Dev nD) : Fin 5 → Nat :=
  let c1_i32_104 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let c0_i32_112 : BitVec 32 := 0#32
  let c0_i32_113 : BitVec 32 := 0#32
  ![1, v5.toNat, 4, 0, 0]
def k0_off6 (d0 : Dev nD) : Fin 5 → Nat :=
  let c0_i32_103 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let c0_i32_115 : BitVec 32 := 0#32
  let c0_i32_116 : BitVec 32 := 0#32
  ![0, v5.toNat, 4, 0, 0]
def k0_dev7 (d0 : Dev nD) : Nat :=
  let c0_i32_108 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_107 : BitVec 32 := 8#32
  let v102 : BitVec 32 := Scalar.muli v9 c8_i32_107
  let v103 : BitVec 32 := Scalar.addi c0_i32_108 v102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v104 : BitVec 32 := Scalar.muli v5 c4_i32_109
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v106 : BitVec 32 := Scalar.muli v8 c1_i32_110
  let v107 : BitVec 32 := Scalar.addi v105 v106
  v107.toNat
def k0_dev8 (d0 : Dev nD) : Nat :=
  let c0_i32_121 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_120 : BitVec 32 := 8#32
  let v116 : BitVec 32 := Scalar.muli v9 c8_i32_120
  let v117 : BitVec 32 := Scalar.addi c0_i32_121 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v118 : BitVec 32 := Scalar.muli v5 c4_i32_122
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v120 : BitVec 32 := Scalar.muli v8 c1_i32_123
  let v121 : BitVec 32 := Scalar.addi v119 v120
  v121.toNat
def k0_off7 (d0 : Dev nD) : Fin 5 → Nat :=
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c6_i32_137 : BitVec 32 := 6#32
  let c0_i32_138 : BitVec 32 := 0#32
  let c0_i32_139 : BitVec 32 := 0#32
  ![1, v5.toNat, 6, 0, 0]
def k0_off8 (d0 : Dev nD) : Fin 5 → Nat :=
  let c0_i32_130 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c6_i32_140 : BitVec 32 := 6#32
  let c0_i32_141 : BitVec 32 := 0#32
  let c0_i32_142 : BitVec 32 := 0#32
  ![0, v5.toNat, 6, 0, 0]
def k0_dev9 (d0 : Dev nD) : Nat :=
  let c0_i32_134 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_133 : BitVec 32 := 8#32
  let v130 : BitVec 32 := Scalar.muli v9 c8_i32_133
  let v131 : BitVec 32 := Scalar.addi c0_i32_134 v130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_135 : BitVec 32 := 4#32
  let v132 : BitVec 32 := Scalar.muli v5 c4_i32_135
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v134 : BitVec 32 := Scalar.muli v8 c1_i32_136
  let v135 : BitVec 32 := Scalar.addi v133 v134
  v135.toNat
def k0_dev10 (d0 : Dev nD) : Nat :=
  let c0_i32_147 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_146 : BitVec 32 := 8#32
  let v144 : BitVec 32 := Scalar.muli v9 c8_i32_146
  let v145 : BitVec 32 := Scalar.addi c0_i32_147 v144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_148 : BitVec 32 := 4#32
  let v146 : BitVec 32 := Scalar.muli v5 c4_i32_148
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v148 : BitVec 32 := Scalar.muli v8 c1_i32_149
  let v149 : BitVec 32 := Scalar.addi v147 v148
  v149.toNat
def k0_dev11 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v198 : BitVec 32 := Scalar.muli v2 c8_i32_205
  let v199 : BitVec 32 := Scalar.addi c0_i32_206 v198
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_207 : BitVec 32 := 4#32
  let v200 : BitVec 32 := Scalar.muli v10 c4_i32_207
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v202 : BitVec 32 := Scalar.muli v8 c1_i32_208
  let v203 : BitVec 32 := Scalar.addi v201 v202
  v203.toNat
def k0_dev12 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_263 : BitVec 32 := 8#32
  let v252 : BitVec 32 := Scalar.muli v2 c8_i32_263
  let v253 : BitVec 32 := Scalar.addi c0_i32_264 v252
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_265 : BitVec 32 := 4#32
  let v254 : BitVec 32 := Scalar.muli v10 c4_i32_265
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v256 : BitVec 32 := Scalar.muli v8 c1_i32_266
  let v257 : BitVec 32 := Scalar.addi v255 v256
  v257.toNat
def k0_dev13 (d0 : Dev nD) : Nat :=
  let c0_i32_322 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_321 : BitVec 32 := 8#32
  let v306 : BitVec 32 := Scalar.muli v2 c8_i32_321
  let v307 : BitVec 32 := Scalar.addi c0_i32_322 v306
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_323 : BitVec 32 := 4#32
  let v308 : BitVec 32 := Scalar.muli v10 c4_i32_323
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v310 : BitVec 32 := Scalar.muli v8 c1_i32_324
  let v311 : BitVec 32 := Scalar.addi v309 v310
  v311.toNat
def k0_dev14 (d0 : Dev nD) : Nat :=
  let c0_i32_380 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_379 : BitVec 32 := 8#32
  let v360 : BitVec 32 := Scalar.muli v2 c8_i32_379
  let v361 : BitVec 32 := Scalar.addi c0_i32_380 v360
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_381 : BitVec 32 := 4#32
  let v362 : BitVec 32 := Scalar.muli v10 c4_i32_381
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382 : BitVec 32 := 1#32
  let v364 : BitVec 32 := Scalar.muli v8 c1_i32_382
  let v365 : BitVec 32 := Scalar.addi v363 v364
  v365.toNat
def k0_dev15 (d0 : Dev nD) : Nat :=
  let c0_i32_440 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_439 : BitVec 32 := 8#32
  let v414 : BitVec 32 := Scalar.muli v2 c8_i32_439
  let v415 : BitVec 32 := Scalar.addi c0_i32_440 v414
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_441 : BitVec 32 := 4#32
  let v416 : BitVec 32 := Scalar.muli v10 c4_i32_441
  let v417 : BitVec 32 := Scalar.addi v415 v416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v418 : BitVec 32 := Scalar.muli v8 c1_i32_442
  let v419 : BitVec 32 := Scalar.addi v417 v418
  v419.toNat
def k0_dev16 (d0 : Dev nD) : Nat :=
  let c0_i32_500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_499 : BitVec 32 := 8#32
  let v468 : BitVec 32 := Scalar.muli v2 c8_i32_499
  let v469 : BitVec 32 := Scalar.addi c0_i32_500 v468
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_501 : BitVec 32 := 4#32
  let v470 : BitVec 32 := Scalar.muli v10 c4_i32_501
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v472 : BitVec 32 := Scalar.muli v8 c1_i32_502
  let v473 : BitVec 32 := Scalar.addi v471 v472
  v473.toNat
def k0_dev17 (d0 : Dev nD) : Nat :=
  let c0_i32_560 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_559 : BitVec 32 := 8#32
  let v522 : BitVec 32 := Scalar.muli v2 c8_i32_559
  let v523 : BitVec 32 := Scalar.addi c0_i32_560 v522
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_561 : BitVec 32 := 4#32
  let v524 : BitVec 32 := Scalar.muli v10 c4_i32_561
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v526 : BitVec 32 := Scalar.muli v8 c1_i32_562
  let v527 : BitVec 32 := Scalar.addi v525 v526
  v527.toNat
def k0_dev18 (d0 : Dev nD) : Nat :=
  let c0_i32_620 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_619 : BitVec 32 := 8#32
  let v576 : BitVec 32 := Scalar.muli v2 c8_i32_619
  let v577 : BitVec 32 := Scalar.addi c0_i32_620 v576
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_621 : BitVec 32 := 4#32
  let v578 : BitVec 32 := Scalar.muli v10 c4_i32_621
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v580 : BitVec 32 := Scalar.muli v8 c1_i32_622
  let v581 : BitVec 32 := Scalar.addi v579 v580
  v581.toNat
def k0_dev19 (d0 : Dev nD) : Nat :=
  let c0_i32_1207 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1206 : BitVec 32 := 8#32
  let v1102 : BitVec 32 := Scalar.muli v9 c8_i32_1206
  let v1103 : BitVec 32 := Scalar.addi c0_i32_1207 v1102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1208 : BitVec 32 := 4#32
  let v1104 : BitVec 32 := Scalar.muli v5 c4_i32_1208
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1209 : BitVec 32 := 1#32
  let v1106 : BitVec 32 := Scalar.muli v8 c1_i32_1209
  let v1107 : BitVec 32 := Scalar.addi v1105 v1106
  v1107.toNat
def k0_dev20 (d0 : Dev nD) : Nat :=
  let c0_i32_1212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1211 : BitVec 32 := 8#32
  let v1108 : BitVec 32 := Scalar.muli v2 c8_i32_1211
  let v1109 : BitVec 32 := Scalar.addi c0_i32_1212 v1108
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1213 : BitVec 32 := 4#32
  let v1110 : BitVec 32 := Scalar.muli v10 c4_i32_1213
  let v1111 : BitVec 32 := Scalar.addi v1109 v1110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1214 : BitVec 32 := 1#32
  let v1112 : BitVec 32 := Scalar.muli v8 c1_i32_1214
  let v1113 : BitVec 32 := Scalar.addi v1111 v1112
  v1113.toNat
abbrev stage0_0 : Fin 1 → Memref sig .tc .vmem S2x8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x8x64, .bf16⟩
  | .hbm, ⟨1, _⟩ => ⟨S2x1024x8x64, .bf16⟩
  | .hbm, ⟨2, _⟩ => ⟨S2x1024x8x64, .bf16⟩
  | .hbm, ⟨3, _⟩ => ⟨S2x1024x8x64, .f32⟩
  | .hbm, ⟨4, _⟩ => ⟨S2x1024x8x64, .f32⟩
  | .hbm, ⟨5, _⟩ => ⟨S2x1024x8x64, .f32⟩
  | .hbm, ⟨6, _⟩ => ⟨S2x8x1024x1024, .f32⟩
  | .hbm, ⟨7, _⟩ => ⟨S_, .f32⟩
  | .hbm, ⟨8, _⟩ => ⟨S2x8x1024x1024, .f32⟩
  | .hbm, ⟨9, _⟩ => ⟨S2x8x1024x1024, .f32⟩
  | .hbm, ⟨10, _⟩ => ⟨S_, .f32⟩
  | .hbm, ⟨11, _⟩ => ⟨S2x8x1024, .f32⟩
  | .hbm, ⟨12, _⟩ => ⟨S2x8x1024x1, .f32⟩
  | .hbm, ⟨13, _⟩ => ⟨S2x8x1024x1024, .f32⟩
  | .hbm, ⟨14, _⟩ => ⟨S2x8x1024x1024, .f32⟩
  | .hbm, ⟨15, _⟩ => ⟨S2x8x1024x1024, .f32⟩
  | .hbm, ⟨16, _⟩ => ⟨S_, .f32⟩
  | .hbm, ⟨17, _⟩ => ⟨S2x8x1024, .f32⟩
  | .hbm, ⟨18, _⟩ => ⟨S2x8x1024x1, .f32⟩
  | .hbm, ⟨19, _⟩ => ⟨S2x8x1024x1024, .f32⟩
  | .hbm, ⟨20, _⟩ => ⟨S2x8x1024x1024, .f32⟩
  | .hbm, ⟨21, _⟩ => ⟨S2x8x64x1024, .f32⟩
  | .hbm, ⟨22, _⟩ => ⟨S2x1024x8x64, .f32⟩
  | _, _ => ⟨S2x1024x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
The exchange of the attention kernel: which device talks to which, the pieces of the two scratch buffers that
travel, what each semaphore's round hands over, what each device owes when the kernel starts.

Device `8x + 4y + z` has two partners: `xp` (other `x`), `yp` (other `y`). It sends the batch `y` of its own keys and
values to `xp`, in eight chunks of two heads (keys and values in turn), forwards each chunk it received to `yp`, and
receives from `yp` the other batch of the keys and values that `xp (yp ·)` holds.
-/
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's (two duty names) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partners -/

set_option backward.proofsInPublic true in
/-- The device with the other `x`. -/
def xp (c : Dev nD) : Dev nD := ⟨(c.val + 8) % 16, Nat.mod_lt _ (by decide)⟩
set_option backward.proofsInPublic true in
/-- The device with the other `y`. -/
def yp (c : Dev nD) : Dev nD := ⟨c.val / 8 * 8 + (c.val + 4) % 8, by have := c.isLt; change _ < 16 at this; show _ < 16; omega⟩
/-- The coordinate `y`. -/
def yb (c : Dev nD) : ℕ := c.val / 4 % 2

theorem xp_xp (c : Dev nD) : xp (xp c) = c := by revert c; decide
theorem yp_yp (c : Dev nD) : yp (yp c) = c := by revert c; decide
theorem yb_xp (c : Dev nD) : yb (xp c) = yb c := by revert c; decide
theorem yb_yp (c : Dev nD) : yb (yp c) = 1 - yb c := by revert c; decide
theorem yb_lt (c : Dev nD) : yb c < 2 := Nat.mod_lt _ (by decide)
theorem xp_ne_yp (c : Dev nD) : xp c ≠ yp c := by revert c; decide

def xEquiv : Dev nD ≃ Dev nD := ⟨xp, xp, xp_xp, xp_xp⟩
def yEquiv : Dev nD ≃ Dev nD := ⟨yp, yp, yp_yp, yp_yp⟩

/-! ## The chunks -/

/-- A chunk: even numbers carry keys, odd ones values; chunk `ch` covers the heads `2 (ch / 2)` and the next. -/
abbrev Ch : Type := Fin 8

abbrev isV (ch : Ch) : Bool := decide (ch.val % 2 = 1)
abbrev hd (ch : Ch) : ℕ := ch.val / 2

/-- The coordinates of a buffer of keys or values: slot, batch, head, feature, position. -/
abbrev I5 : Type := S2x2x8x64x512.Idx
abbrev I4 : Type := S2x8x64x512.Idx

/-- A slot's coordinates within it. -/
def tail4 (i : I5) : I4 := fun a => i a.succ

/-- Two heads of one batch of one slot. -/
def reg (s b j : ℕ) : Finset I5 :=
  Finset.univ.filter fun i => (i 0).val = s ∧ (i 1).val = b ∧ (i 2).val / 2 = j
/-- One slot. -/
def slot (s : ℕ) : Finset I5 := Finset.univ.filter fun i => (i 0).val = s

theorem mem_reg {s b j : ℕ} {i : I5} : i ∈ reg s b j ↔ (i 0).val = s ∧ (i 1).val = b ∧ (i 2).val / 2 = j := by
  simp [reg]
theorem mem_slot {s : ℕ} {i : I5} : i ∈ slot s ↔ (i 0).val = s := by simp [slot]

/-- The two scratch buffers. -/
abbrev kM : Memref sig .tc .vmem S2x2x8x64x512 .bf16 := Memref.whole cc0_scratch0
abbrev vM : Memref sig .tc .vmem S2x2x8x64x512 .fp8e4m3 := Memref.whole cc0_scratch1
/-- The four staging buffers. -/
abbrev qS : Memref sig .tc .vmem S2x8x64x512 .bf16 := Memref.whole cc0_stg0_0
abbrev kS : Memref sig .tc .vmem S2x8x64x512 .bf16 := Memref.whole cc0_stg1_0
abbrev vS : Memref sig .tc .vmem S2x8x64x512 .bf16 := Memref.whole cc0_stg2_0
abbrev oS : Memref sig .tc .vmem S2x8x64x512 .f32 := Memref.whole cc0_stg3_0

/-! ## Contents -/

/-- Device `c`'s queries, keys, values as the kernel finds them (batch, head, feature, position). -/
def qst (c : Dev nD) : FVec F S2x8x64x512 .bf16 := V m c main_v1
def kst (c : Dev nD) : FVec F S2x8x64x512 .bf16 := V m c main_v2
def vst (c : Dev nD) : FVec F S2x8x64x512 .bf16 := V m c main_v3

/-- The buffer of keys, every slot holding device `d`'s; -/
def kImg (d : Dev nD) : (cc0_scratch0 : Ref sig .tc).ty.Contents (Elt F) := fun i => kst m d (tail4 i)
/-- the buffer of values, every slot holding device `d`'s in the narrow format. -/
def vImg (d : Dev nD) : (cc0_scratch1 : Ref sig .tc).ty.Contents (Elt F) :=
  fun i => truncf .fp8e4m3 (vst m d) bitsLt_fp8e4m3_bf16 (tail4 i)

/-- The elements `I` of device `c`'s keys (values), holding device `d`'s. -/
def kReg (c : Dev nD) (I : Finset I5) (d : Dev nD) : sProp 𝕄 :=
  ((c : Thread nD τ).loc cc0_scratch0) ↦[I]{fullShare} kImg m d
def vReg (c : Dev nD) (I : Finset I5) (d : Dev nD) : sProp 𝕄 :=
  ((c : Thread nD τ).loc cc0_scratch1) ↦[I]{fullShare} vImg m d
/-- The same at some contents. -/
def kAny (c : Dev nD) (I : Finset I5) : sProp 𝕄 :=
  iprop(∃ f : Buf (Elt F) ((c : Thread nD τ).loc cc0_scratch0), ((c : Thread nD τ).loc cc0_scratch0) ↦[I]{fullShare} f)
def vAny (c : Dev nD) (I : Finset I5) : sProp 𝕄 :=
  iprop(∃ f : Buf (Elt F) ((c : Thread nD τ).loc cc0_scratch1), ((c : Thread nD τ).loc cc0_scratch1) ↦[I]{fullShare} f)

/-- A chunk of device `c`'s slot `s`, batch `b`, holding device `d`'s keys or values; -/
def cReg (c : Dev nD) (ch : Ch) (s b : ℕ) (d : Dev nD) : sProp 𝕄 :=
  bif isV ch then vReg m c (reg s b (hd ch)) d else kReg m c (reg s b (hd ch)) d
/-- at some contents. -/
def cAny (c : Dev nD) (ch : Ch) (s b : ℕ) : sProp 𝕄 :=
  bif isV ch then vAny c (reg s b (hd ch)) else kAny c (reg s b (hd ch))

omit [FloatOps F] in
instance kAny_storable (c : Dev nD) (I) : BI.Storable (upEmb : UEmb _ 𝕄) (kAny (F := F) c I) := by unfold kAny; infer_instance
omit [FloatOps F] in
instance vAny_storable (c : Dev nD) (I) : BI.Storable (upEmb : UEmb _ 𝕄) (vAny (F := F) c I) := by unfold vAny; infer_instance
instance cReg_storable (c : Dev nD) (ch s b d) : BI.Storable (upEmb : UEmb _ 𝕄) (cReg m c ch s b d) := by
  unfold cReg kReg vReg; cases isV ch <;> dsimp only [cond] <;> infer_instance
omit [FloatOps F] in
instance cAny_storable (c : Dev nD) (ch s b) : BI.Storable (upEmb : UEmb _ 𝕄) (cAny (F := F) c ch s b) := by
  unfold cAny; cases isV ch <;> dsimp only [cond] <;> infer_instance

/-! ## The semaphores -/

set_option backward.proofsInPublic true in
/-- The first exchange's send and receive semaphores, -/
def sx (ch : Ch) : DmaSem sig := ⟨4 + ch.val, by have := ch.isLt; show _ < 36; omega⟩
set_option backward.proofsInPublic true in
def rx (ch : Ch) : DmaSem sig := ⟨12 + ch.val, by have := ch.isLt; show _ < 36; omega⟩
set_option backward.proofsInPublic true in
/-- and the second's. -/
def sf (ch : Ch) : DmaSem sig := ⟨20 + ch.val, by have := ch.isLt; show _ < 36; omega⟩
set_option backward.proofsInPublic true in
def rf (ch : Ch) : DmaSem sig := ⟨28 + ch.val, by have := ch.isLt; show _ < 36; omega⟩
/-- The barrier semaphore and the semaphore of the handshake at the end. -/
abbrev barS : Sem sig := (SemArray.scalar (sig.barrier 0 rfl) : Sems sig S_).sem
abbrev exS : Sem sig := cc0_scratch6.sem

abbrev barC (c : Dev nD) : GSem nD τ sig := ((c : Thread nD τ), .reg barS)
abbrev exC (c : Dev nD) : GSem nD τ sig := ((c : Thread nD τ), .reg exS)
abbrev dC (c : Dev nD) (q : DmaSem sig) : GSem nD τ sig := ((c : Thread nD τ), .dma q)

theorem bar_ne_ex : barS ≠ exS := by decide

/-- The credit of a chunk of keys, and of values. -/
abbrev kN : ℕ := ((kM.slice (Rect.unit (s := S2x2x8x64x512) (k0_off1 0) S1x1x2x64x512.size (k0_off1_inb 0)) (fun _ => rfl)).squeeze S2x64x512 squeezes_S1x1x2x64x512_S2x64x512).view.dmaCredit
abbrev vN : ℕ := ((vM.slice (Rect.unit (s := S2x2x8x64x512) (k0_off1 0) S1x1x2x64x512.size (k0_off1_inb 0)) (fun _ => rfl)).squeeze S2x64x512 squeezes_S1x1x2x64x512_S2x64x512).view.dmaCredit
theorem kN_pos : 0 < kN := View.dmaCredit_pos _ (by decide)
theorem vN_pos : 0 < vN := View.dmaCredit_pos _ (by decide)

def amt (v : Bool) : ℕ := bif v then vN else kN
theorem amt_pos (v : Bool) : 0 < amt v := by cases v; exacts [kN_pos, vN_pos]

/-! ## The schedule -/

/-- What the signal of `xp c` on `c`'s barrier hands `c`: the pieces of `xp c`'s second slot that `c` fills, and that
    `xp c` has reached round 0 of the cells `c` credits there. -/
def barPayX (c : Dev nD) : sProp 𝕄 :=
  iprop((bigSep Finset.univ fun ch : Ch => iprop(cAny (xp c) ch 1 (yb c) ∗ reached ER (dC (xp c) (rx ch)) 0)) ∗ reached ER (exC (xp c)) 0)
/-- The same for `yp c` and the second exchange. -/
def barPayY (c : Dev nD) : sProp 𝕄 :=
  iprop((bigSep Finset.univ fun ch : Ch => iprop(cAny (yp c) ch 1 (yb c) ∗ reached ER (dC (yp c) (rf ch)) 0)) ∗ reached ER (exC (yp c)) 0)

/-- The chunk a transfer semaphore belongs to, -/
def chOf (q : DmaSem sig) : Ch := ⟨(q.val + 4) % 8, Nat.mod_lt _ (by decide)⟩
/-- and which of the four arrays of semaphores (1 to 4) it is in. -/
def grp (q : DmaSem sig) : ℕ := (q.val + 4) / 8

theorem chOf_sx (ch : Ch) : chOf (sx ch) = ch := by revert ch; decide
theorem chOf_rx (ch : Ch) : chOf (rx ch) = ch := by revert ch; decide
theorem chOf_sf (ch : Ch) : chOf (sf ch) = ch := by revert ch; decide
theorem chOf_rf (ch : Ch) : chOf (rf ch) = ch := by revert ch; decide
theorem grp_sx (ch : Ch) : grp (sx ch) = 1 := by revert ch; decide
theorem grp_rx (ch : Ch) : grp (rx ch) = 2 := by revert ch; decide
theorem grp_sf (ch : Ch) : grp (sf ch) = 3 := by revert ch; decide
theorem grp_rf (ch : Ch) : grp (rf ch) = 4 := by revert ch; decide

/-- What the transfers hand over: the source back, or the filled chunk. -/
def dmaPay (c : Dev nD) (q : DmaSem sig) : sProp 𝕄 :=
  if grp q = 1 then cReg m c (chOf q) 0 (yb c) c
  else if grp q = 4 then cReg m c (chOf q) 1 (1 - yb c) (xp (yp c))
  else cReg m c (chOf q) 1 (yb c) (xp c)

/-- The duties, the units, the payloads of a semaphore. -/
def dut (g : GSem nD τ sig) : Finset Bool :=
  match g.1.2, g.2 with
  | .tc, .reg _ => Finset.univ
  | .tc, .dma q => if 4 ≤ q.val then {false} else ∅
  | _, _ => ∅
def unitsOf (g : GSem nD τ sig) : ℕ :=
  match g.2 with
  | .reg _ => 1
  | .dma q => amt (isV (chOf q))
def payOf (g : GSem nD τ sig) (d : Bool) : sProp 𝕄 :=
  match g.2 with
  | .reg s => if s = barS then (bif d then barPayY (F := F) g.1.1 else barPayX (F := F) g.1.1) else iprop(emp)
  | .dma q => dmaPay m g.1.1 q

/-- One round per semaphore: the barrier's and the last handshake's have two duties of one unit each (`false` is the
    signal of `xp c`, `true` that of `yp c`), a transfer semaphore's one duty. -/
def Rd : Rounds.Schedule (GSem nD τ sig) Bool (MT nD τ sig Unit (Elt F) ℕ UU ℕ) where
  duties g r := if r = 0 then dut g else ∅
  unitless _ := False
  amount g _ _ := unitsOf g
  payload g _ d := payOf m g d
  amount_pos g _ _ _ := by unfold unitsOf; split; exacts [Nat.one_pos, amt_pos _]

instance payload_storable (g : GSem nD τ sig) (r : ℕ) (d : Bool) : BI.Storable (upEmb : UEmb _ 𝕄) ((Rd m).payload g r d) := by
  show BI.Storable upEmb (payOf m g d)
  unfold payOf
  split
  · unfold barPayX barPayY
    split
    · cases d <;> dsimp only [cond] <;> infer_instance
    · infer_instance
  · unfold dmaPay; (repeat' split) <;> infer_instance

section Sched
variable (c : Dev nD)

theorem duties_reg (s : Sem sig) : (Rd (F := F) m).duties ((c : Thread nD τ), .reg s) 0 = Finset.univ := rfl
theorem duties_dma (q : DmaSem sig) (h : 4 ≤ q.val) : (Rd (F := F) m).duties (dC c q) 0 = {false} := if_pos h
theorem duties_later (g : GSem nD τ sig) : ∀ r, 1 ≤ r → (Rd (F := F) m).duties g r = ∅ := fun r hr => if_neg (by omega)
theorem amount_reg (s : Sem sig) (d : Bool) : (Rd (F := F) m).amount ((c : Thread nD τ), .reg s) 0 d = 1 := rfl
theorem amount_dma (q : DmaSem sig) (d : Bool) : (Rd (F := F) m).amount (dC c q) 0 d = amt (isV (chOf q)) := rfl
theorem expect_reg (s : Sem sig) : (Rd (F := F) m).expect ((c : Thread nD τ), .reg s) 0 = 2 := by
  unfold Schedule.expect Schedule.amountOf
  rw [duties_reg, Finset.sum_congr rfl fun d _ => amount_reg m c s d, Finset.sum_const, Finset.card_univ, Fintype.card_bool, smul_eq_mul]
theorem expect_dma (q : DmaSem sig) (h : 4 ≤ q.val) : (Rd (F := F) m).expect (dC c q) 0 = amt (isV (chOf q)) := by
  unfold Schedule.expect Schedule.amountOf; rw [duties_dma m c q h, Finset.sum_singleton, amount_dma]

theorem payload_barX : (Rd (F := F) m).payload (barC c) 0 false = barPayX (F := F) c := by
  show payOf m (barC c) false = _; unfold payOf; dsimp only [cond]; exact if_pos rfl
theorem payload_barY : (Rd (F := F) m).payload (barC c) 0 true = barPayY (F := F) c := by
  show payOf m (barC c) true = _; unfold payOf; dsimp only [cond]; exact if_pos rfl
theorem payload_ex (d : Bool) : (Rd (F := F) m).payload (exC c) 0 d = iprop(emp) := by
  show payOf m (exC c) d = _; unfold payOf; exact if_neg (fun h => bar_ne_ex h.symm)
theorem payload_dma (q : DmaSem sig) (d : Bool) : (Rd (F := F) m).payload (dC c q) 0 d = dmaPay m c q := rfl

theorem le_sx (ch : Ch) : 4 ≤ (sx ch).val := by revert ch; decide
theorem le_rx (ch : Ch) : 4 ≤ (rx ch).val := by revert ch; decide
theorem le_sf (ch : Ch) : 4 ≤ (sf ch).val := by revert ch; decide
theorem le_rf (ch : Ch) : 4 ≤ (rf ch).val := by revert ch; decide

theorem pay_sx (ch : Ch) : dmaPay m c (sx ch) = cReg m c ch 0 (yb c) c := by
  unfold dmaPay; rw [grp_sx, chOf_sx]; exact if_pos rfl
theorem pay_rx (ch : Ch) : dmaPay m c (rx ch) = cReg m c ch 1 (yb c) (xp c) := by
  unfold dmaPay; rw [grp_rx, chOf_rx]; exact (if_neg (by decide)).trans (if_neg (by decide))
theorem pay_sf (ch : Ch) : dmaPay m c (sf ch) = cReg m c ch 1 (yb c) (xp c) := by
  unfold dmaPay; rw [grp_sf, chOf_sf]; exact (if_neg (by decide)).trans (if_neg (by decide))
theorem pay_rf (ch : Ch) : dmaPay m c (rf ch) = cReg m c ch 1 (1 - yb c) (xp (yp c)) := by
  unfold dmaPay; rw [grp_rf, chOf_rf]; exact (if_neg (by decide)).trans (if_pos (by decide))

/-- What the barrier's round hands over; -/
theorem rest_bar : bigSep ((Rd (F := F) m).duties (barC c) 0 \ ∅) (fun d => (Rd (F := F) m).payload (barC c) 0 d)
    = iprop(barPayX (F := F) c ∗ barPayY (F := F) c) := by
  rw [Finset.sdiff_empty, duties_reg, bigSep_univ_eq_bigSepL [false, true] (by decide) (by decide), bigSepL_cons_cons, bigSepL_singleton,
    payload_barX, payload_barY]
  rfl
/-- the last handshake's nothing; -/
theorem rest_ex : bigSep ((Rd (F := F) m).duties (exC c) 0 \ ∅) (fun d => (Rd (F := F) m).payload (exC c) 0 d)
    = iprop(emp ∗ emp) := by
  rw [Finset.sdiff_empty, duties_reg, bigSep_univ_eq_bigSepL [false, true] (by decide) (by decide), bigSepL_cons_cons, bigSepL_singleton,
    payload_ex, payload_ex]
  rfl
/-- a transfer's its chunk. -/
theorem rest_dma (q : DmaSem sig) (h : 4 ≤ q.val) :
    bigSep ((Rd (F := F) m).duties (dC c q) 0 \ ∅) (fun d => (Rd (F := F) m).payload (dC c q) 0 d) = dmaPay m c q := by
  rw [Finset.sdiff_empty, duties_dma m c q h, bigSep_singleton, payload_dma]

end Sched

/-! ## What a device owes, and the levels -/

/-- The receive credits of the first exchange still owed to `xp c`, the chunks in `S` being outstanding; of the second. -/
def owX (c : Dev nD) (S : Finset Ch) : CellTallies nD τ sig Unit := ∑ ch ∈ S, tallyAt (dC (xp c) (rx ch)) () (amt (isV ch))
def owY (c : Dev nD) (S : Finset Ch) : CellTallies nD τ sig Unit := ∑ ch ∈ S, tallyAt (dC (yp c) (rf ch)) () (amt (isV ch))
/-- The two units of the last handshake. -/
def owE (c : Dev nD) : CellTallies nD τ sig Unit := tallyAt (exC (yp c)) () 1 + tallyAt (exC (xp c)) () 1
/-- Between the barrier and the last handshake. -/
def owM (c : Dev nD) (S T : Finset Ch) : CellTallies nD τ sig Unit := owE c + owY c T + owX c S
/-- At launch. -/
def O₁ (c : Dev nD) : CellTallies nD τ sig Unit := owM c Finset.univ Finset.univ + tallyAt (barC (yp c)) () 1
def O₀ (c : Dev nD) : CellTallies nD τ sig Unit := O₁ c + tallyAt (barC (xp c)) () 1

theorem owX_insert (c : Dev nD) (S : Finset Ch) (ch : Ch) (h : ch ∈ S) :
    owX c S = owX c (S.erase ch) + tallyAt (dC (xp c) (rx ch)) () (amt (isV ch)) := by
  unfold owX; rw [Finset.sum_erase_add _ _ h]
theorem owM_x (c : Dev nD) (S T : Finset Ch) (ch : Ch) (h : ch ∈ S) :
    owM c S T = owM c (S.erase ch) T + tallyAt (dC (xp c) (rx ch)) () (amt (isV ch)) := by
  unfold owM; rw [owX_insert c S ch h, add_assoc, add_assoc, add_assoc]
theorem owM_y (c : Dev nD) (S T : Finset Ch) (ch : Ch) (h : ch ∈ T) :
    owM c S T = owM c S (T.erase ch) + tallyAt (dC (yp c) (rf ch)) () (amt (isV ch)) := by
  have : owY c T = owY c (T.erase ch) + tallyAt (dC (yp c) (rf ch)) () (amt (isV ch)) := by
    unfold owY; rw [Finset.sum_erase_add _ _ h]
  unfold owM; rw [this, ← add_assoc, add_right_comm]
theorem owM_nil (c : Dev nD) : owM c ∅ ∅ = tallyAt (exC (yp c)) () 1 + tallyAt (exC (xp c)) () 1 := by
  unfold owM owX owY owE; rw [Finset.sum_empty, Finset.sum_empty, add_zero, add_zero]

def L (g : GSem nD τ sig) : Finset Unit := if g.1.2 = .tc then {()} else ∅
/-- Staging and send semaphores at 0, the barrier at 1, the first exchange's receive semaphores at 2, the second's at 3,
    the last handshake at 4. -/
def lvS (s : SemLoc sig) : ℕ :=
  match s with
  | .reg s => if s = barS then 1 else 4
  | .dma q => if grp q = 2 then 2 else if grp q = 4 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_bar : lvS (.reg barS) = 1 := by unfold lvS; exact if_pos rfl
theorem lvS_ex : lvS (.reg exS) = 4 := by unfold lvS; exact if_neg fun h => bar_ne_ex h.symm
theorem lvS_sx (ch : Ch) : lvS (.dma (sx ch)) = 0 := by revert ch; decide
theorem lvS_rx (ch : Ch) : lvS (.dma (rx ch)) = 2 := by revert ch; decide
theorem lvS_sf (ch : Ch) : lvS (.dma (sf ch)) = 0 := by revert ch; decide
theorem lvS_rf (ch : Ch) : lvS (.dma (rf ch)) = 3 := by revert ch; decide

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h
theorem add_pos_or {A B : CellTallies nD τ sig Unit} {g : GSem nD τ sig} {u : Unit} (h : 0 < (A + B) g u) : 0 < A g u ∨ 0 < B g u := by
  rw [Pi.add_apply, Finsupp.add_apply] at h; omega
theorem sum_pos_ex {S : Finset Ch} {A : Ch → CellTallies nD τ sig Unit} {g : GSem nD τ sig} {u : Unit} (h : 0 < (∑ ch ∈ S, A ch) g u) :
    ∃ ch ∈ S, 0 < A ch g u := by
  induction S using Finset.induction_on with
  | empty => exact absurd h (Nat.lt_irrefl 0)
  | insert a S ha ih =>
    rw [Finset.sum_insert ha] at h
    rcases add_pos_or h with h | h
    · exact ⟨a, Finset.mem_insert_self _ _, h⟩
    · obtain ⟨b, hb, h⟩ := ih h; exact ⟨b, Finset.mem_insert_of_mem hb, h⟩

theorem owM_pos {c : Dev nD} {S T : Finset Ch} {g : GSem nD τ sig} {u : Unit} (h : 0 < owM c S T g u) :
    (g = exC (yp c) ∨ g = exC (xp c)) ∨ (∃ ch ∈ T, g = dC (yp c) (rf ch)) ∨ ∃ ch ∈ S, g = dC (xp c) (rx ch) := by
  unfold owM owX owY owE at h
  rcases add_pos_or h with h | h
  · rcases add_pos_or h with h | h
    · rcases add_pos_or h with h | h
      · exact .inl (.inl (tallyAt_pos h))
      · exact .inl (.inr (tallyAt_pos h))
    · obtain ⟨ch, hc, h⟩ := sum_pos_ex h; exact .inr (.inl ⟨ch, hc, tallyAt_pos h⟩)
  · obtain ⟨ch, hc, h⟩ := sum_pos_ex h; exact .inr (.inr ⟨ch, hc, tallyAt_pos h⟩)

/-- Every cell owed is a TensorCore's, and its level is at least `n`. -/
def Above (n : ℕ) (O : CellTallies nD τ sig Unit) : Prop := ∀ g u, 0 < O g u → g.1.2 = .tc ∧ n < lvS g.2

theorem above_owM (c : Dev nD) (S T : Finset Ch) : Above 1 (owM c S T) := fun g u h => by
  rcases owM_pos h with (rfl | rfl) | ⟨ch, _, rfl⟩ | ⟨ch, _, rfl⟩
  · exact ⟨rfl, by rw [lvS_ex]; decide⟩
  · exact ⟨rfl, by rw [lvS_ex]; decide⟩
  · exact ⟨rfl, by rw [lvS_rf]; decide⟩
  · exact ⟨rfl, by rw [lvS_rx]; decide⟩
theorem above_owM2 (c : Dev nD) (T : Finset Ch) : Above 2 (owM c ∅ T) := fun g u h => by
  rcases owM_pos h with (rfl | rfl) | ⟨ch, _, rfl⟩ | ⟨ch, hn, rfl⟩
  · exact ⟨rfl, by rw [lvS_ex]; decide⟩
  · exact ⟨rfl, by rw [lvS_ex]; decide⟩
  · exact ⟨rfl, by rw [lvS_rf]; decide⟩
  · exact absurd hn (Finset.notMem_empty _)
theorem above_owM3 (c : Dev nD) : Above 3 (owM c ∅ ∅) := fun g u h => by
  rcases owM_pos h with (rfl | rfl) | ⟨ch, hn, rfl⟩ | ⟨ch, hn, rfl⟩
  · exact ⟨rfl, by rw [lvS_ex]; decide⟩
  · exact ⟨rfl, by rw [lvS_ex]; decide⟩
  · exact absurd hn (Finset.notMem_empty _)
  · exact absurd hn (Finset.notMem_empty _)
theorem above_O₀ (c : Dev nD) : Above 0 (O₀ c) := fun g u h => by
  unfold O₀ O₁ at h
  rcases add_pos_or h with h | h
  · rcases add_pos_or h with h | h
    · exact ⟨(above_owM c _ _ g u h).1, lt_trans Nat.one_pos (above_owM c _ _ g u h).2⟩
    · rw [tallyAt_pos h]; exact ⟨rfl, by rw [lvS_bar]; decide⟩
  · rw [tallyAt_pos h]; exact ⟨rfl, by rw [lvS_bar]; decide⟩
theorem above_zero (n : ℕ) : Above n 0 := fun g u h => absurd h (Nat.lt_irrefl 0)

/-- A device may wait on a semaphore of level at most `n` when it owes cells above `n`. -/
theorem mayWait (c : Dev nD) (sm : SemLoc sig) (n : ℕ) (hs : lvS sm ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Attn

end
-- ==== Proof.Steps.lean ====
/-
The exchange's steps, one device at a time: how far each chunk has got, and what one transfer or one wait does to that.
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The chunk views -/

/-- Two heads of one batch of one slot, as the transfers and waits name them. -/
abbrev cR (off : Fin 5 → ℕ) (h : ∀ a, off a + S1x1x2x64x512.size a ≤ S2x2x8x64x512.size a) : Rect S2x2x8x64x512 :=
  Rect.unit (s := S2x2x8x64x512) off S1x1x2x64x512.size h

theorem region_iff (s b j : ℕ) (i : I5) :
    (∀ a : Fin 5, (![s, b, 2 * j, 0, 0] : Fin 5 → ℕ) a ≤ (i a).val ∧ (i a).val < (![s, b, 2 * j, 0, 0] : Fin 5 → ℕ) a + S1x1x2x64x512.size a)
      ↔ (i 0).val = s ∧ (i 1).val = b ∧ (i 2).val / 2 = j := by
  have h3 : (i 3).val < 64 := (i 3).isLt
  have h4 : (i 4).val < 512 := (i 4).isLt
  constructor
  · intro h
    have h0 : s ≤ (i 0).val ∧ (i 0).val < s + 1 := h 0
    have h1 : b ≤ (i 1).val ∧ (i 1).val < b + 1 := h 1
    have h2 : 2 * j ≤ (i 2).val ∧ (i 2).val < 2 * j + 2 := h 2
    omega
  · rintro ⟨h0, h1, h2⟩ a
    fin_cases a
    · show s ≤ (i 0).val ∧ (i 0).val < s + 1; omega
    · show b ≤ (i 1).val ∧ (i 1).val < b + 1; omega
    · show 2 * j ≤ (i 2).val ∧ (i 2).val < 2 * j + 2; omega
    · show 0 ≤ (i 3).val ∧ (i 3).val < 0 + 64; omega
    · show 0 ≤ (i 4).val ∧ (i 4).val < 0 + 512; omega

theorem tail4_cR (s s' b j : ℕ) (h h') (y : S1x1x2x64x512.Idx) :
    tail4 ((cR ![s, b, 2 * j, 0, 0] h).idx y) = tail4 ((cR ![s', b, 2 * j, 0, 0] h').idx y) := by
  funext a
  apply Fin.ext
  fin_cases a <;> rfl

abbrev kC (off : Fin 5 → ℕ) (h : ∀ a, off a + S1x1x2x64x512.size a ≤ S2x2x8x64x512.size a) : Memref sig .tc .vmem S2x64x512 .bf16 :=
  (kM.slice (cR off h) (fun _ => rfl)).squeeze S2x64x512 squeezes_S1x1x2x64x512_S2x64x512

abbrev vC (off : Fin 5 → ℕ) (h : ∀ a, off a + S1x1x2x64x512.size a ≤ S2x2x8x64x512.size a) : Memref sig .tc .vmem S2x64x512 .fp8e4m3 :=
  (vM.slice (cR off h) (fun _ => rfl)).squeeze S2x64x512 squeezes_S1x1x2x64x512_S2x64x512

theorem kC_amt (off h) (q : DmaSem sig) : (kC off h).view.amount (.dma q) = amt false := rfl
theorem vC_amt (off h) (q : DmaSem sig) : (vC off h).view.amount (.dma q) = amt true := rfl

theorem kC_set (s b j : ℕ) (off) (h) (ho : off = ![s, b, 2 * j, 0, 0]) : (kC off h).view.set = reg s b j := by
  subst ho
  refine (View.set_reshape ((View.whole cc0_scratch0).slice (cR ![s, b, 2 * j, 0, 0] h)) _).trans ((View.set_slice_whole cc0_scratch0 (cR ![s, b, 2 * j, 0, 0] h)).trans ?_)
  ext i
  rw [mem_reg, Rect.mem_set_unit]
  exact region_iff s b j i

theorem kC_emb (off) (h) (x : S2x64x512.Idx) :
    (kC off h).view.emb x = (cR off h).idx (Shape.reshapeEquiv squeezes_S1x1x2x64x512_S2x64x512.numel_eq x) := rfl

/-- A copied chunk holds what its source held: the two places differ in their slot only. -/
theorem kC_copy (d : Dev nD) (s s' b j : ℕ) (off off') (h h') (ho : off = ![s, b, 2 * j, 0, 0]) (ho' : off' = ![s', b, 2 * j, 0, 0])
    (fd : (cc0_scratch0 : Ref sig .tc).ty.Contents (Elt F)) (i) (hi : i ∈ reg s' b j) :
    (kC off' h').view.write (Elt F) fd ((kC off h).view.read (Elt F) (kImg m d)) Finset.univ i = kImg m d i := by
  rw [← kC_set s' b j off' h' ho'] at hi
  obtain ⟨x, -, rfl⟩ := Finset.mem_map.mp hi
  refine (View.write_emb (v := (kC off' h').view) (Val := Elt F) fd _ Finset.univ x).trans ?_
  rw [if_pos (Finset.mem_univ _)]
  show kImg m d ((kC off h).view.emb x) = kImg m d ((kC off' h').view.emb x)
  subst ho ho'
  rw [kC_emb, kC_emb]
  unfold kImg
  rw [tail4_cR]

theorem vC_set (s b j : ℕ) (off) (h) (ho : off = ![s, b, 2 * j, 0, 0]) : (vC off h).view.set = reg s b j := by
  subst ho
  refine (View.set_reshape ((View.whole cc0_scratch1).slice (cR ![s, b, 2 * j, 0, 0] h)) _).trans ((View.set_slice_whole cc0_scratch1 (cR ![s, b, 2 * j, 0, 0] h)).trans ?_)
  ext i
  rw [mem_reg, Rect.mem_set_unit]
  exact region_iff s b j i

theorem vC_emb (off) (h) (x : S2x64x512.Idx) :
    (vC off h).view.emb x = (cR off h).idx (Shape.reshapeEquiv squeezes_S1x1x2x64x512_S2x64x512.numel_eq x) := rfl

/-- A copied chunk holds what its source held: the two places differ in their slot only. -/
theorem vC_copy (d : Dev nD) (s s' b j : ℕ) (off off') (h h') (ho : off = ![s, b, 2 * j, 0, 0]) (ho' : off' = ![s', b, 2 * j, 0, 0])
    (fd : (cc0_scratch1 : Ref sig .tc).ty.Contents (Elt F)) (i) (hi : i ∈ reg s' b j) :
    (vC off' h').view.write (Elt F) fd ((vC off h).view.read (Elt F) (vImg m d)) Finset.univ i = vImg m d i := by
  rw [← vC_set s' b j off' h' ho'] at hi
  obtain ⟨x, -, rfl⟩ := Finset.mem_map.mp hi
  refine (View.write_emb (v := (vC off' h').view) (Val := Elt F) fd _ Finset.univ x).trans ?_
  rw [if_pos (Finset.mem_univ _)]
  show vImg m d ((vC off h).view.emb x) = vImg m d ((vC off' h').view.emb x)
  subst ho ho'
  rw [vC_emb, vC_emb]
  unfold vImg
  rw [tail4_cR]

/-- One transfer of a chunk of keys from device `c` to device `n`, its two semaphores' rounds handing the source back and
    the filled chunk over. -/
theorem wp_copy_k (K : GSem nD τ sig → ℕ) (c n n' : Dev nD) (hn : n' = n) (d : Dev nD) (s s' b j : ℕ) {off off'} {h h'}
    (ho : off = ![s, b, 2 * j, 0, 0]) (ho' : off' = ![s', b, 2 * j, 0, 0]) (q₁ q₂ q₁' q₂' : DmaSem sig) (e₁ : q₁' = q₁) (e₂ : q₂' = q₂)
    (l₁ : 4 ≤ q₁.val) (l₂ : 4 ≤ q₂.val) (v₁ : isV (chOf q₁) = false) (v₂ : isV (chOf q₂) = false)
    (p₁ : dmaPay m c q₁ = kReg m c (reg s b j) d) (p₂ : dmaPay m n q₂ = kReg m n (reg s' b j) d)
    {hsc : (kC off' h' : Memref sig (Dev.tc n' : Thread nD τ).2.kind .vmem S2x64x512 .bf16).view.ref.isScScratch = false}
    {hsrc : (kC off h).view.WordExact} {hdst : (kC off' h').view.WordExact}
    {hsem : DmaTarget.Typed .vmem (.dma q₂') (.remote (Dev.tc n' : Thread nD τ) (kC off' h' : Memref sig .tc .vmem S2x64x512 .bf16) (.dma q₁') hsc)}
    {α : Type} {Q : α → sProp 𝕄} {k : PUnit → Prog (TpuEff nD τ sig (Elt F) Λ₀ .tc) α}
    (O : CellTallies nD τ sig Unit) (W : Waits sig Unit) :
    iprop(cellInv ER (Rd m) (K (dC c q₁)) (dC c q₁) ∗ cellInv ER (Rd m) (K (dC n q₂)) (dC n q₂)
        ∗ kReg m c (reg s b j) d ∗ kAny n (reg s' b j)
        ∗ owes (c : Thread nD τ) (O + tallyAt (dC n q₂) () (amt false)) W
        ∗ dutyTok ER (dC c q₁) 0 false ∗ reached ER (dC c q₁) 0
        ∗ dutyTok ER (dC n q₂) 0 false ∗ reached ER (dC n q₂) 0)
      ⊢ iprop(((cred (tallyAt (dC c q₁) () (amt false)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (kC off h) (.remote (Dev.tc n' : Thread nD τ) (kC off' h') (.dma q₁') hsc) (.dma q₂') hsrc hdst hsem) k) Q) := by
  subst hn e₁ e₂
  have hs := kC_set s b j off h ho
  have hs' := kC_set s' b j off' h' ho'
  iintro ⟨HI1, HI2, Hs, Hd, HO, Ht1, Hr1, Ht2, Hr2⟩
  unfold kAny
  icases Hd with ⟨%fd, Hd⟩
  iapply (Rounds.wp_send_pointsTo 𝒱₀ ER (Rd m) (c : Thread nD τ) none (κ₁ := K (dC c q₁')) (κ₂ := K (dC n' q₂'))
    (r₁ := 0) (r₂ := 0) (d₁ := false) (d₂ := false) (fs := kImg m d) (fd := fd) (q := fullShare)
    (by rw [duties_dma m c q₁' l₁]; exact Finset.mem_singleton_self _) (by rw [duties_dma m n' q₂' l₂]; exact Finset.mem_singleton_self _)
    () () (amt false) (kC_amt off' h' q₂') ((amount_dma m c q₁' false).trans (by rw [v₁])) ((amount_dma m n' q₂' false).trans (by rw [v₂])) O rfl (W := W)
    (by rw [payload_dma, p₁]; unfold kReg; rw [hs])
    (by
      rw [payload_dma, p₂]; unfold kReg; rw [hs']
      exact Entails.of_eq (pointsTo_congr (kC_copy m d s s' b j off off' h h' ho ho' fd)))) $$ [HI1 HI2 Hs Hd HO Ht1 Hr1 Ht2 Hr2]
  rw [hs, hs']
  isplitl [HI1]; · iexact HI1
  isplitl [HI2]; · iexact HI2
  isplitl [Hs]; · unfold kReg; iexact Hs
  isplitl [Hd]; · iexact Hd
  isplitl [HO]; · iexact HO
  isplitl [Ht1]; · iexact Ht1
  isplitl [Hr1]; · iexact Hr1
  isplitl [Ht2]; · iexact Ht2
  iexact Hr2

/-- One transfer of a chunk of values from device `c` to device `n`, its two semaphores' rounds handing the source back and
    the filled chunk over. -/
theorem wp_copy_v (K : GSem nD τ sig → ℕ) (c n n' : Dev nD) (hn : n' = n) (d : Dev nD) (s s' b j : ℕ) {off off'} {h h'}
    (ho : off = ![s, b, 2 * j, 0, 0]) (ho' : off' = ![s', b, 2 * j, 0, 0]) (q₁ q₂ q₁' q₂' : DmaSem sig) (e₁ : q₁' = q₁) (e₂ : q₂' = q₂)
    (l₁ : 4 ≤ q₁.val) (l₂ : 4 ≤ q₂.val) (v₁ : isV (chOf q₁) = true) (v₂ : isV (chOf q₂) = true)
    (p₁ : dmaPay m c q₁ = vReg m c (reg s b j) d) (p₂ : dmaPay m n q₂ = vReg m n (reg s' b j) d)
    {hsc : (vC off' h' : Memref sig (Dev.tc n' : Thread nD τ).2.kind .vmem S2x64x512 .fp8e4m3).view.ref.isScScratch = false}
    {hsrc : (vC off h).view.WordExact} {hdst : (vC off' h').view.WordExact}
    {hsem : DmaTarget.Typed .vmem (.dma q₂') (.remote (Dev.tc n' : Thread nD τ) (vC off' h' : Memref sig .tc .vmem S2x64x512 .fp8e4m3) (.dma q₁') hsc)}
    {α : Type} {Q : α → sProp 𝕄} {k : PUnit → Prog (TpuEff nD τ sig (Elt F) Λ₀ .tc) α}
    (O : CellTallies nD τ sig Unit) (W : Waits sig Unit) :
    iprop(cellInv ER (Rd m) (K (dC c q₁)) (dC c q₁) ∗ cellInv ER (Rd m) (K (dC n q₂)) (dC n q₂)
        ∗ vReg m c (reg s b j) d ∗ vAny n (reg s' b j)
        ∗ owes (c : Thread nD τ) (O + tallyAt (dC n q₂) () (amt true)) W
        ∗ dutyTok ER (dC c q₁) 0 false ∗ reached ER (dC c q₁) 0
        ∗ dutyTok ER (dC n q₂) 0 false ∗ reached ER (dC n q₂) 0)
      ⊢ iprop(((cred (tallyAt (dC c q₁) () (amt true)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vC off h) (.remote (Dev.tc n' : Thread nD τ) (vC off' h') (.dma q₁') hsc) (.dma q₂') hsrc hdst hsem) k) Q) := by
  subst hn e₁ e₂
  have hs := vC_set s b j off h ho
  have hs' := vC_set s' b j off' h' ho'
  iintro ⟨HI1, HI2, Hs, Hd, HO, Ht1, Hr1, Ht2, Hr2⟩
  unfold vAny
  icases Hd with ⟨%fd, Hd⟩
  iapply (Rounds.wp_send_pointsTo 𝒱₀ ER (Rd m) (c : Thread nD τ) none (κ₁ := K (dC c q₁')) (κ₂ := K (dC n' q₂'))
    (r₁ := 0) (r₂ := 0) (d₁ := false) (d₂ := false) (fs := vImg m d) (fd := fd) (q := fullShare)
    (by rw [duties_dma m c q₁' l₁]; exact Finset.mem_singleton_self _) (by rw [duties_dma m n' q₂' l₂]; exact Finset.mem_singleton_self _)
    () () (amt true) (vC_amt off' h' q₂') ((amount_dma m c q₁' false).trans (by rw [v₁])) ((amount_dma m n' q₂' false).trans (by rw [v₂])) O rfl (W := W)
    (by rw [payload_dma, p₁]; unfold vReg; rw [hs])
    (by
      rw [payload_dma, p₂]; unfold vReg; rw [hs']
      exact Entails.of_eq (pointsTo_congr (vC_copy m d s s' b j off off' h h' ho ho' fd)))) $$ [HI1 HI2 Hs Hd HO Ht1 Hr1 Ht2 Hr2]
  rw [hs, hs']
  isplitl [HI1]; · iexact HI1
  isplitl [HI2]; · iexact HI2
  isplitl [Hs]; · unfold vReg; iexact Hs
  isplitl [Hd]; · iexact Hd
  isplitl [HO]; · iexact HO
  isplitl [Ht1]; · iexact Ht1
  isplitl [Hr1]; · iexact Hr1
  isplitl [Ht2]; · iexact Ht2
  iexact Hr2

/-! ## How far a chunk has got -/

/-- The facts about chunk `ch` that stay: its four semaphores' invariants on `c` and the two it credits elsewhere, and that
    these have reached their round. -/
def PersCh (K : GSem nD τ sig → ℕ) (c : Dev nD) (ch : Ch) : sProp 𝕄 :=
  iprop(cellInv ER (Rd m) (K (dC c (sx ch))) (dC c (sx ch)) ∗ cellInv ER (Rd m) (K (dC c (rx ch))) (dC c (rx ch))
    ∗ cellInv ER (Rd m) (K (dC c (sf ch))) (dC c (sf ch)) ∗ cellInv ER (Rd m) (K (dC c (rf ch))) (dC c (rf ch))
    ∗ cellInv ER (Rd m) (K (dC (xp c) (rx ch))) (dC (xp c) (rx ch)) ∗ cellInv ER (Rd m) (K (dC (yp c) (rf ch))) (dC (yp c) (rf ch))
    ∗ reached ER (dC c (sx ch)) 0 ∗ reached ER (dC c (sf ch)) 0 ∗ reached ER (dC (xp c) (rx ch)) 0 ∗ reached ER (dC (yp c) (rf ch)) 0)

instance persCh_persistent (K : GSem nD τ sig → ℕ) (c : Dev nD) (ch : Ch) : BI.Persistent (PersCh m K c ch) := by unfold PersCh; infer_instance

abbrev a₀ (c : Dev nD) (q : DmaSem sig) : sProp 𝕄 := atPos ER (dC c q) 0 ∅ 0
abbrev a₁ (c : Dev nD) (q : DmaSem sig) : sProp 𝕄 := atPos ER (dC c q) (0 + 1) ∅ 0
abbrev tk (c : Dev nD) (q : DmaSem sig) : sProp 𝕄 := dutyTok ER (dC c q) 0 false
abbrev cr (c : Dev nD) (q : DmaSem sig) (ch : Ch) : sProp 𝕄 := cred (tallyAt (dC c q) () (amt (isV ch)))

/-- Chunk `ch` on device `c` after `n` of its six steps: sent to `xp c`; received from `xp c`; forwarded to `yp c`; the
    three waits that give the sent source, the forwarded source and the chunk from `yp c`. -/
def Rch (c : Dev nD) (ch : Ch) (n : ℕ) : sProp 𝕄 :=
  match n with
  | 0 => iprop((cReg m c ch 0 (yb c) c ∗ cAny (xp c) ch 1 (yb c) ∗ tk c (sx ch) ∗ tk (xp c) (rx ch))
      ∗ (a₀ c (rx ch) ∗ cr c (rx ch) ch) ∗ (cAny (yp c) ch 1 (yb c) ∗ tk c (sf ch) ∗ tk (yp c) (rf ch))
      ∗ a₀ c (sx ch) ∗ a₀ c (sf ch) ∗ a₀ c (rf ch) ∗ cr c (rf ch) ch)
  | 1 => iprop((a₀ c (rx ch) ∗ cr c (rx ch) ch) ∗ (cAny (yp c) ch 1 (yb c) ∗ tk c (sf ch) ∗ tk (yp c) (rf ch))
      ∗ (a₀ c (sx ch) ∗ cr c (sx ch) ch) ∗ a₀ c (sf ch) ∗ a₀ c (rf ch) ∗ cr c (rf ch) ch)
  | 2 => iprop((cReg m c ch 1 (yb c) (xp c) ∗ cAny (yp c) ch 1 (yb c) ∗ tk c (sf ch) ∗ tk (yp c) (rf ch))
      ∗ (a₀ c (sx ch) ∗ cr c (sx ch) ch) ∗ a₀ c (sf ch) ∗ (a₀ c (rf ch) ∗ cr c (rf ch) ch) ∗ a₁ c (rx ch))
  | 3 => iprop((a₀ c (sx ch) ∗ cr c (sx ch) ch) ∗ (a₀ c (sf ch) ∗ cr c (sf ch) ch) ∗ (a₀ c (rf ch) ∗ cr c (rf ch) ch) ∗ a₁ c (rx ch))
  | 4 => iprop(cReg m c ch 0 (yb c) c ∗ (a₀ c (sf ch) ∗ cr c (sf ch) ch) ∗ (a₀ c (rf ch) ∗ cr c (rf ch) ch) ∗ a₁ c (rx ch) ∗ a₁ c (sx ch))
  | 5 => iprop(cReg m c ch 0 (yb c) c ∗ cReg m c ch 1 (yb c) (xp c) ∗ (a₀ c (rf ch) ∗ cr c (rf ch) ch) ∗ a₁ c (rx ch) ∗ a₁ c (sx ch) ∗ a₁ c (sf ch))
  | _ => iprop(cReg m c ch 0 (yb c) c ∗ cReg m c ch 1 (yb c) (xp c) ∗ cReg m c ch 1 (1 - yb c) (xp (yp c))
      ∗ a₁ c (rx ch) ∗ a₁ c (sx ch) ∗ a₁ c (sf ch) ∗ a₁ c (rf ch))

/-- What is owed when chunk `ch` has taken `st ch` steps. -/
def Ow (c : Dev nD) (st : Ch → ℕ) : CellTallies nD τ sig Unit :=
  owM c (Finset.univ.filter fun ch => st ch < 1) (Finset.univ.filter fun ch => st ch < 3)

/-- The exchange on device `c`, chunk `ch` after `st ch` steps. -/
def Mid (K : GSem nD τ sig → ℕ) (c : Dev nD) (st : Ch → ℕ) : sProp 𝕄 :=
  iprop((bigSep Finset.univ fun ch => PersCh m K c ch) ∗ levAts L lv ∗ (bigSep Finset.univ fun ch => Rch m c ch (st ch))
    ∗ ∃ W : Waits sig Unit, owes (c : Thread nD τ) (Ow c st) W)

/-- All chunks but one. -/
def Rest (c : Dev nD) (st : Ch → ℕ) (ch : Ch) : sProp 𝕄 := bigSep (Finset.univ.erase ch) fun ch' => Rch m c ch' (st ch')

theorem mid_rch (c : Dev nD) (st : Ch → ℕ) (ch : Ch) :
    (bigSep Finset.univ fun ch => Rch m c ch (st ch)) = iprop(Rch m c ch (st ch) ∗ Rest m c st ch) := by
  unfold Rest
  conv_lhs => rw [← Finset.insert_erase (Finset.mem_univ ch)]
  exact bigSep_insert (Finset.notMem_erase _ _)

theorem rest_congr (c : Dev nD) (st st' : Ch → ℕ) (ch : Ch) (h : ∀ ch', ch' ≠ ch → st' ch' = st ch') : Rest m c st ch = Rest m c st' ch := by
  unfold Rest
  exact bigSep_congr fun ch' hc => by rw [h ch' (Finset.ne_of_mem_erase hc)]

theorem mid_pers (K : GSem nD τ sig → ℕ) (c : Dev nD) (ch : Ch) :
    (bigSep Finset.univ fun ch => PersCh m K c ch) ⊢ PersCh m K c ch := bigSep_elim (Finset.mem_univ ch)

/-- The sums owed after a step that is no transfer, a first transfer, a forward. -/
theorem ow_wait (c : Dev nD) (st st' : Ch → ℕ) (ch : Ch) (h : ∀ ch', ch' ≠ ch → st' ch' = st ch')
    (h1 : st' ch < 1 ↔ st ch < 1) (h3 : st' ch < 3 ↔ st ch < 3) : Ow c st' = Ow c st := by
  unfold Ow
  congr 1 <;> (apply Finset.filter_congr; intro x _; by_cases hx : x = ch <;> [(subst hx; assumption); rw [h x hx]])
theorem ow_send (c : Dev nD) (st st' : Ch → ℕ) (ch : Ch) (h : ∀ ch', ch' ≠ ch → st' ch' = st ch') (h0 : st ch = 0) (h1 : st' ch = 1) :
    Ow c st = Ow c st' + tallyAt (dC (xp c) (rx ch)) () (amt (isV ch)) := by
  unfold Ow
  rw [owM_x c _ _ ch (Finset.mem_filter.mpr ⟨Finset.mem_univ _, by omega⟩)]
  congr 2
  · ext x
    simp only [Finset.mem_erase, Finset.mem_filter, Finset.mem_univ, true_and]
    by_cases hx : x = ch
    · subst hx; simp [h1]
    · rw [h x hx]; simp [hx]
  · apply Finset.filter_congr; intro x _
    by_cases hx : x = ch
    · subst hx; omega
    · rw [h x hx]
theorem ow_fwd (c : Dev nD) (st st' : Ch → ℕ) (ch : Ch) (h : ∀ ch', ch' ≠ ch → st' ch' = st ch') (h0 : st ch = 2) (h1 : st' ch = 3) :
    Ow c st = Ow c st' + tallyAt (dC (yp c) (rf ch)) () (amt (isV ch)) := by
  unfold Ow
  rw [owM_y c _ _ ch (Finset.mem_filter.mpr ⟨Finset.mem_univ _, by omega⟩)]
  congr 2
  · apply Finset.filter_congr; intro x _
    by_cases hx : x = ch
    · subst hx; omega
    · rw [h x hx]
  · ext x
    simp only [Finset.mem_erase, Finset.mem_filter, Finset.mem_univ, true_and]
    by_cases hx : x = ch
    · subst hx; simp [h1]
    · rw [h x hx]; simp [hx]

/-! ## The steps -/

/-- A first transfer. -/
theorem send_k (K : GSem nD τ sig → ℕ) (c n : Dev nD) (st st' : Ch → ℕ) (ch : Ch) (hn : n = xp c) (b : ℕ) (hb : b = yb c) {off off'} {h h'}
    (ho : off = ![0, b, 2 * hd ch, 0, 0]) (ho' : off' = ![1, b, 2 * hd ch, 0, 0]) (q₁ q₂ : DmaSem sig) (e₁ : q₁ = sx ch) (e₂ : q₂ = rx ch)
    (hv : isV ch = false) (h0 : st ch = 0) (h1 : st' ch = 1) (hst : ∀ ch', ch' ≠ ch → st' ch' = st ch')
    {hsc : (kC off' h' : Memref sig (Dev.tc n : Thread nD τ).2.kind .vmem S2x64x512 .bf16).view.ref.isScScratch = false}
    {hsrc : (kC off h).view.WordExact} {hdst : (kC off' h').view.WordExact}
    {hsem : DmaTarget.Typed .vmem (.dma q₂) (.remote (Dev.tc n : Thread nD τ) (kC off' h' : Memref sig .tc .vmem S2x64x512 .bf16) (.dma q₁) hsc)}
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma (kC off h) (.remote (Dev.tc n : Thread nD τ) (kC off' h') (.dma q₁) hsc) (.dma q₂) hsrc hdst hsem) k) Q := by
  subst hb
  unfold Mid
  rw [mid_rch m c st ch, mid_rch m c st' ch, h0, h1, rest_congr m c st st' ch hst, ow_send c st st' ch hst h0 h1]
  iintro ⟨⟨#HP, #HL, ⟨HR, Hrest⟩, ⟨%W, HO⟩⟩, Hk⟩
  ihave #HPc := (mid_pers m K c ch) $$ HP
  unfold PersCh
  icases HPc with ⟨HIsx, -, -, -, HIrx, -, Hrsx, -, Hrrx, -⟩
  simp only [Rch]
  unfold cReg cAny cr
  rw [hv]
  dsimp only [cond]
  icases HR with ⟨⟨HS, HX, Ht1, Ht2⟩, Hrest1, Hrest2, Ha, Hrest3⟩
  iapply (wp_copy_k m K c (xp c) n hn c 0 1 (yb c) (hd ch) ho ho' (sx ch) (rx ch) q₁ q₂ e₁ e₂ (le_sx ch) (le_rx ch)
    (by rw [chOf_sx]; exact hv) (by rw [chOf_rx]; exact hv)
    (by rw [pay_sx]; unfold cReg; rw [hv]; rfl)
    (by rw [pay_rx, yb_xp, xp_xp]; unfold cReg; rw [hv]; rfl) (Ow c st') W) $$ [HS HX HO Ht1 Ht2]
  · isplitr; · iexact HIsx
    isplitr; · iexact HIrx
    isplitl [HS]; · iexact HS
    isplitl [HX]; · iexact HX
    isplitl [HO]; · iexact HO
    isplitl [Ht1]; · iexact Ht1
    isplitr; · iexact Hrsx
    isplitl [Ht2]; · iexact Ht2
    iexact Hrrx
  iintro ⟨Hc, HO⟩
  iapply Hk
  isplitr; · iexact HP
  isplitr; · iexact HL
  isplitr [HO]
  · isplitr [Hrest]
    · isplitl [Hrest1]; · iexact Hrest1
      isplitl [Hrest2]; · iexact Hrest2
      isplitl [Ha Hc]
      · isplitl [Ha]; · iexact Ha
        iexact Hc
      iexact Hrest3
    · iexact Hrest
  iexists W; iexact HO

/-- A forward. -/
theorem fwd_k (K : GSem nD τ sig → ℕ) (c n : Dev nD) (st st' : Ch → ℕ) (ch : Ch) (hn : n = yp c) (b : ℕ) (hb : b = yb c) {off off'} {h h'}
    (ho : off = ![1, b, 2 * hd ch, 0, 0]) (ho' : off' = ![1, b, 2 * hd ch, 0, 0]) (q₁ q₂ : DmaSem sig) (e₁ : q₁ = sf ch) (e₂ : q₂ = rf ch)
    (hv : isV ch = false) (h0 : st ch = 2) (h1 : st' ch = 3) (hst : ∀ ch', ch' ≠ ch → st' ch' = st ch')
    {hsc : (kC off' h' : Memref sig (Dev.tc n : Thread nD τ).2.kind .vmem S2x64x512 .bf16).view.ref.isScScratch = false}
    {hsrc : (kC off h).view.WordExact} {hdst : (kC off' h').view.WordExact}
    {hsem : DmaTarget.Typed .vmem (.dma q₂) (.remote (Dev.tc n : Thread nD τ) (kC off' h' : Memref sig .tc .vmem S2x64x512 .bf16) (.dma q₁) hsc)}
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma (kC off h) (.remote (Dev.tc n : Thread nD τ) (kC off' h') (.dma q₁) hsc) (.dma q₂) hsrc hdst hsem) k) Q := by
  subst hb
  unfold Mid
  rw [mid_rch m c st ch, mid_rch m c st' ch, h0, h1, rest_congr m c st st' ch hst, ow_fwd c st st' ch hst h0 h1]
  iintro ⟨⟨#HP, #HL, ⟨HR, Hrest⟩, ⟨%W, HO⟩⟩, Hk⟩
  ihave #HPc := (mid_pers m K c ch) $$ HP
  unfold PersCh
  icases HPc with ⟨-, -, HIsf, -, -, HIrf, -, Hrsf, -, Hrrf⟩
  simp only [Rch]
  unfold cReg cAny cr
  rw [hv]
  dsimp only [cond]
  icases HR with ⟨⟨HS, HX, Ht1, Ht2⟩, Hrest1, Ha, Hrest2, Hrest3⟩
  iapply (wp_copy_k m K c (yp c) n hn (xp c) 1 1 (yb c) (hd ch) ho ho' (sf ch) (rf ch) q₁ q₂ e₁ e₂ (le_sf ch) (le_rf ch)
    (by rw [chOf_sf]; exact hv) (by rw [chOf_rf]; exact hv)
    (by rw [pay_sf]; unfold cReg; rw [hv]; rfl)
    (by rw [pay_rf, yb_yp, yp_yp]; unfold cReg; rw [hv, show 1 - (1 - yb c) = yb c from by have := yb_lt c; omega]; rfl) (Ow c st') W) $$ [HS HX HO Ht1 Ht2]
  · isplitr; · iexact HIsf
    isplitr; · iexact HIrf
    isplitl [HS]; · iexact HS
    isplitl [HX]; · iexact HX
    isplitl [HO]; · iexact HO
    isplitl [Ht1]; · iexact Ht1
    isplitr; · iexact Hrsf
    isplitl [Ht2]; · iexact Ht2
    iexact Hrrf
  iintro ⟨Hc, HO⟩
  iapply Hk
  isplitr; · iexact HP
  isplitr; · iexact HL
  isplitr [HO]
  · isplitr [Hrest]
    · isplitl [Hrest1]; · iexact Hrest1
      isplitl [Ha Hc]
      · isplitl [Ha]; · iexact Ha
        iexact Hc
      isplitl [Hrest2]; · iexact Hrest2
      iexact Hrest3
    · iexact Hrest
  iexists W; iexact HO

/-- A first transfer. -/
theorem send_v (K : GSem nD τ sig → ℕ) (c n : Dev nD) (st st' : Ch → ℕ) (ch : Ch) (hn : n = xp c) (b : ℕ) (hb : b = yb c) {off off'} {h h'}
    (ho : off = ![0, b, 2 * hd ch, 0, 0]) (ho' : off' = ![1, b, 2 * hd ch, 0, 0]) (q₁ q₂ : DmaSem sig) (e₁ : q₁ = sx ch) (e₂ : q₂ = rx ch)
    (hv : isV ch = true) (h0 : st ch = 0) (h1 : st' ch = 1) (hst : ∀ ch', ch' ≠ ch → st' ch' = st ch')
    {hsc : (vC off' h' : Memref sig (Dev.tc n : Thread nD τ).2.kind .vmem S2x64x512 .fp8e4m3).view.ref.isScScratch = false}
    {hsrc : (vC off h).view.WordExact} {hdst : (vC off' h').view.WordExact}
    {hsem : DmaTarget.Typed .vmem (.dma q₂) (.remote (Dev.tc n : Thread nD τ) (vC off' h' : Memref sig .tc .vmem S2x64x512 .fp8e4m3) (.dma q₁) hsc)}
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma (vC off h) (.remote (Dev.tc n : Thread nD τ) (vC off' h') (.dma q₁) hsc) (.dma q₂) hsrc hdst hsem) k) Q := by
  subst hb
  unfold Mid
  rw [mid_rch m c st ch, mid_rch m c st' ch, h0, h1, rest_congr m c st st' ch hst, ow_send c st st' ch hst h0 h1]
  iintro ⟨⟨#HP, #HL, ⟨HR, Hrest⟩, ⟨%W, HO⟩⟩, Hk⟩
  ihave #HPc := (mid_pers m K c ch) $$ HP
  unfold PersCh
  icases HPc with ⟨HIsx, -, -, -, HIrx, -, Hrsx, -, Hrrx, -⟩
  simp only [Rch]
  unfold cReg cAny cr
  rw [hv]
  dsimp only [cond]
  icases HR with ⟨⟨HS, HX, Ht1, Ht2⟩, Hrest1, Hrest2, Ha, Hrest3⟩
  iapply (wp_copy_v m K c (xp c) n hn c 0 1 (yb c) (hd ch) ho ho' (sx ch) (rx ch) q₁ q₂ e₁ e₂ (le_sx ch) (le_rx ch)
    (by rw [chOf_sx]; exact hv) (by rw [chOf_rx]; exact hv)
    (by rw [pay_sx]; unfold cReg; rw [hv]; rfl)
    (by rw [pay_rx, yb_xp, xp_xp]; unfold cReg; rw [hv]; rfl) (Ow c st') W) $$ [HS HX HO Ht1 Ht2]
  · isplitr; · iexact HIsx
    isplitr; · iexact HIrx
    isplitl [HS]; · iexact HS
    isplitl [HX]; · iexact HX
    isplitl [HO]; · iexact HO
    isplitl [Ht1]; · iexact Ht1
    isplitr; · iexact Hrsx
    isplitl [Ht2]; · iexact Ht2
    iexact Hrrx
  iintro ⟨Hc, HO⟩
  iapply Hk
  isplitr; · iexact HP
  isplitr; · iexact HL
  isplitr [HO]
  · isplitr [Hrest]
    · isplitl [Hrest1]; · iexact Hrest1
      isplitl [Hrest2]; · iexact Hrest2
      isplitl [Ha Hc]
      · isplitl [Ha]; · iexact Ha
        iexact Hc
      iexact Hrest3
    · iexact Hrest
  iexists W; iexact HO

/-- A forward. -/
theorem fwd_v (K : GSem nD τ sig → ℕ) (c n : Dev nD) (st st' : Ch → ℕ) (ch : Ch) (hn : n = yp c) (b : ℕ) (hb : b = yb c) {off off'} {h h'}
    (ho : off = ![1, b, 2 * hd ch, 0, 0]) (ho' : off' = ![1, b, 2 * hd ch, 0, 0]) (q₁ q₂ : DmaSem sig) (e₁ : q₁ = sf ch) (e₂ : q₂ = rf ch)
    (hv : isV ch = true) (h0 : st ch = 2) (h1 : st' ch = 3) (hst : ∀ ch', ch' ≠ ch → st' ch' = st ch')
    {hsc : (vC off' h' : Memref sig (Dev.tc n : Thread nD τ).2.kind .vmem S2x64x512 .fp8e4m3).view.ref.isScScratch = false}
    {hsrc : (vC off h).view.WordExact} {hdst : (vC off' h').view.WordExact}
    {hsem : DmaTarget.Typed .vmem (.dma q₂) (.remote (Dev.tc n : Thread nD τ) (vC off' h' : Memref sig .tc .vmem S2x64x512 .fp8e4m3) (.dma q₁) hsc)}
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma (vC off h) (.remote (Dev.tc n : Thread nD τ) (vC off' h') (.dma q₁) hsc) (.dma q₂) hsrc hdst hsem) k) Q := by
  subst hb
  unfold Mid
  rw [mid_rch m c st ch, mid_rch m c st' ch, h0, h1, rest_congr m c st st' ch hst, ow_fwd c st st' ch hst h0 h1]
  iintro ⟨⟨#HP, #HL, ⟨HR, Hrest⟩, ⟨%W, HO⟩⟩, Hk⟩
  ihave #HPc := (mid_pers m K c ch) $$ HP
  unfold PersCh
  icases HPc with ⟨-, -, HIsf, -, -, HIrf, -, Hrsf, -, Hrrf⟩
  simp only [Rch]
  unfold cReg cAny cr
  rw [hv]
  dsimp only [cond]
  icases HR with ⟨⟨HS, HX, Ht1, Ht2⟩, Hrest1, Ha, Hrest2, Hrest3⟩
  iapply (wp_copy_v m K c (yp c) n hn (xp c) 1 1 (yb c) (hd ch) ho ho' (sf ch) (rf ch) q₁ q₂ e₁ e₂ (le_sf ch) (le_rf ch)
    (by rw [chOf_sf]; exact hv) (by rw [chOf_rf]; exact hv)
    (by rw [pay_sf]; unfold cReg; rw [hv]; rfl)
    (by rw [pay_rf, yb_yp, yp_yp]; unfold cReg; rw [hv, show 1 - (1 - yb c) = yb c from by have := yb_lt c; omega]; rfl) (Ow c st') W) $$ [HS HX HO Ht1 Ht2]
  · isplitr; · iexact HIsf
    isplitr; · iexact HIrf
    isplitl [HS]; · iexact HS
    isplitl [HX]; · iexact HX
    isplitl [HO]; · iexact HO
    isplitl [Ht1]; · iexact Ht1
    isplitr; · iexact Hrsf
    isplitl [Ht2]; · iexact Ht2
    iexact Hrrf
  iintro ⟨Hc, HO⟩
  iapply Hk
  isplitr; · iexact HP
  isplitr; · iexact HL
  isplitr [HO]
  · isplitr [Hrest]
    · isplitl [Hrest1]; · iexact Hrest1
      isplitl [Ha Hc]
      · isplitl [Ha]; · iexact Ha
        iexact Hc
      isplitl [Hrest2]; · iexact Hrest2
      iexact Hrest3
    · iexact Hrest
  iexists W; iexact HO

/-- A wait on a transfer semaphore: its chunk comes back. -/
theorem wait_dma (K : GSem nD τ sig → ℕ) (c : Dev nD) (ch : Ch) (q q' : DmaSem sig) (hq : q' = q) (l : 4 ≤ q.val) (hc : chOf q = ch)
    {sp sp' : Space} {s : Shape} {e : EltTy} {src : Memref sig .tc sp s e} {dst : Memref sig .tc sp' s e} {h₁ h₂}
    (hN : dst.view.dmaCredit = amt (isV ch))
    {α : Type} {Q : α → sProp 𝕄} {k : PUnit → Prog (TpuEff nD τ sig (Elt F) Λ₀ .tc) α}
    (O : CellTallies nD τ sig Unit) (W : Waits sig Unit) (n : ℕ) (hl : lvS (.dma q) ≤ n) (hO : Above n O) :
    iprop(cellInv ER (Rd m) (K (dC c q)) (dC c q) ∗ levAts L lv ∗ a₀ c q ∗ cr c q ch ∗ owes (c : Thread nD τ) O W)
      ⊢ iprop((((∃ W : Waits sig Unit, owes (c : Thread nD τ) O W) ∗ a₁ c q ∗ dmaPay m c q) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst h₁ h₂) k) Q) := by
  subst hq hc
  unfold cr
  rw [← hN]
  iintro ⟨HI, #HL, Ha, Hc, HO⟩ Hk
  iapply (Rounds.wp_wait_rest_token 𝒱₀ ER (Rd m) (c : Thread nD τ) none (κ := K (dC c q'))
      (wpE_waitDma2_eq 𝒱₀ (c : Thread nD τ) none Set.univ) (Set.mem_univ _) () (O := O) (W := W) (R := 0) (m := 0) (T := ∅)
      (by rw [Nat.zero_add, expect_dma m c q' l, hN])) $$ [HI Ha Hc HO]
  · isplitl [HI]; · iexact HI
    isplitl [Hc]; · iexact Hc
    isplitl [HO]; · iexact HO
    isplitr; · iapply (mayWait c (.dma q') n hl O hO); iexact HL
    iexact Ha
  iintro ⟨HO, Ha, -, Hpay⟩
  iapply Hk
  isplitl [HO]; · iexists _; iexact HO
  isplitl [Ha]; · iexact Ha
  iapply (Entails.of_eq (rest_dma m c q' l)); iexact Hpay

theorem ow_none (c : Dev nD) (st : Ch → ℕ) (h : ∀ ch, 1 ≤ st ch) : Above 2 (Ow c st) := by
  unfold Ow
  rw [Finset.filter_false_of_mem (s := Finset.univ) (p := fun ch => st ch < 1) fun x _ => by have := h x; omega]
  exact above_owM2 c _
theorem ow_none3 (c : Dev nD) (st : Ch → ℕ) (h : ∀ ch, 3 ≤ st ch) : Ow c st = owM c ∅ ∅ := by
  unfold Ow
  rw [Finset.filter_false_of_mem (s := Finset.univ) (p := fun ch => st ch < 1) fun x _ => by have := h x; omega,
    Finset.filter_false_of_mem (s := Finset.univ) (p := fun ch => st ch < 3) fun x _ => by have := h x; omega]

/-- The chunk has come from `xp c`. -/
theorem wait_rx (K : GSem nD τ sig → ℕ) (c : Dev nD) (st st' : Ch → ℕ) (ch : Ch) (q : DmaSem sig) (hq : q = rx ch)
    (h0 : st ch = 1) (h1 : st' ch = 2) (hst : ∀ ch', ch' ≠ ch → st' ch' = st ch') (hall : ∀ ch, 1 ≤ st ch)
    {sp sp' : Space} {s : Shape} {e : EltTy} {src : Memref sig .tc sp s e} {dst : Memref sig .tc sp' s e} {h₁ h₂}
    (hN : dst.view.dmaCredit = amt (isV ch))
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 q src dst h₁ h₂) k) Q := by
  unfold Mid
  rw [mid_rch m c st ch, mid_rch m c st' ch, h0, h1, rest_congr m c st st' ch hst,
    ow_wait c st st' ch hst (by rw [h0, h1]; decide) (by rw [h0, h1]; decide)]
  iintro ⟨⟨#HP, #HL, ⟨HR, Hrest⟩, ⟨%W, HO⟩⟩, Hk⟩
  ihave #HPc := (mid_pers m K c ch) $$ HP
  unfold PersCh
  icases HPc with ⟨-, HI, -⟩
  simp only [Rch]
  icases HR with ⟨⟨Ha, Hc⟩, ⟨HY, Ht1, Ht2⟩, HA, HB, HC⟩
  iapply (wait_dma m K c ch (rx ch) q hq (le_rx ch) (chOf_rx ch) hN (Ow c st) W 2 (by rw [lvS_rx]) (ow_none c st hall)) $$ [Ha Hc HO]
  · isplitr; · iexact HI
    isplitr; · iexact HL
    isplitl [Ha]; · iexact Ha
    isplitl [Hc]; · iexact Hc
    iexact HO
  rw [pay_rx]
  iintro ⟨HO, Ha, Hp⟩
  iapply Hk
  isplitr; · iexact HP
  isplitr; · iexact HL
  isplitr [HO]
  · isplitr [Hrest]
    · isplitl [Hp HY Ht1 Ht2]
      · isplitl [Hp]; · iexact Hp
        isplitl [HY]; · iexact HY
        isplitl [Ht1]; · iexact Ht1
        iexact Ht2
      isplitl [HA]; · iexact HA
      isplitl [HB]; · iexact HB
      isplitl [HC]; · iexact HC
      iexact Ha
    · iexact Hrest
  iexact HO

/-- The sent source is back. -/
theorem wait_sx (K : GSem nD τ sig → ℕ) (c : Dev nD) (st st' : Ch → ℕ) (ch : Ch) (q : DmaSem sig) (hq : q = sx ch)
    (h0 : st ch = 3) (h1 : st' ch = 4) (hst : ∀ ch', ch' ≠ ch → st' ch' = st ch') (hall : ∀ ch, 3 ≤ st ch)
    {sp sp' : Space} {s : Shape} {e : EltTy} {src : Memref sig .tc sp s e} {dst : Memref sig .tc sp' s e} {h₁ h₂}
    (hN : dst.view.dmaCredit = amt (isV ch))
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 q src dst h₁ h₂) k) Q := by
  unfold Mid
  rw [mid_rch m c st ch, mid_rch m c st' ch, h0, h1, rest_congr m c st st' ch hst,
    ow_wait c st st' ch hst (by rw [h0, h1]; decide) (by rw [h0, h1]; decide)]
  iintro ⟨⟨#HP, #HL, ⟨HR, Hrest⟩, ⟨%W, HO⟩⟩, Hk⟩
  ihave #HPc := (mid_pers m K c ch) $$ HP
  unfold PersCh
  icases HPc with ⟨HI, -⟩
  simp only [Rch]
  icases HR with ⟨⟨Ha, Hc⟩, HA, HB, HC⟩
  iapply (wait_dma m K c ch (sx ch) q hq (le_sx ch) (chOf_sx ch) hN (Ow c st) W 3 (by rw [lvS_sx]; decide) (by rw [ow_none3 c st hall]; exact above_owM3 c)) $$ [Ha Hc HO]
  · isplitr; · iexact HI
    isplitr; · iexact HL
    isplitl [Ha]; · iexact Ha
    isplitl [Hc]; · iexact Hc
    iexact HO
  rw [pay_sx]
  iintro ⟨HO, Ha, Hp⟩
  iapply Hk
  isplitr; · iexact HP
  isplitr; · iexact HL
  isplitr [HO]
  · isplitr [Hrest]
    · isplitl [Hp]; · iexact Hp
      isplitl [HA]; · iexact HA
      isplitl [HB]; · iexact HB
      isplitl [HC]; · iexact HC
      iexact Ha
    · iexact Hrest
  iexact HO

/-- The forwarded source is back. -/
theorem wait_sf (K : GSem nD τ sig → ℕ) (c : Dev nD) (st st' : Ch → ℕ) (ch : Ch) (q : DmaSem sig) (hq : q = sf ch)
    (h0 : st ch = 4) (h1 : st' ch = 5) (hst : ∀ ch', ch' ≠ ch → st' ch' = st ch') (hall : ∀ ch, 3 ≤ st ch)
    {sp sp' : Space} {s : Shape} {e : EltTy} {src : Memref sig .tc sp s e} {dst : Memref sig .tc sp' s e} {h₁ h₂}
    (hN : dst.view.dmaCredit = amt (isV ch))
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 q src dst h₁ h₂) k) Q := by
  unfold Mid
  rw [mid_rch m c st ch, mid_rch m c st' ch, h0, h1, rest_congr m c st st' ch hst,
    ow_wait c st st' ch hst (by rw [h0, h1]; decide) (by rw [h0, h1]; decide)]
  iintro ⟨⟨#HP, #HL, ⟨HR, Hrest⟩, ⟨%W, HO⟩⟩, Hk⟩
  ihave #HPc := (mid_pers m K c ch) $$ HP
  unfold PersCh
  icases HPc with ⟨-, -, HI, -⟩
  simp only [Rch]
  icases HR with ⟨HA, ⟨Ha, Hc⟩, HB, HC, HD⟩
  iapply (wait_dma m K c ch (sf ch) q hq (le_sf ch) (chOf_sf ch) hN (Ow c st) W 3 (by rw [lvS_sf]; decide) (by rw [ow_none3 c st hall]; exact above_owM3 c)) $$ [Ha Hc HO]
  · isplitr; · iexact HI
    isplitr; · iexact HL
    isplitl [Ha]; · iexact Ha
    isplitl [Hc]; · iexact Hc
    iexact HO
  rw [pay_sf]
  iintro ⟨HO, Ha, Hp⟩
  iapply Hk
  isplitr; · iexact HP
  isplitr; · iexact HL
  isplitr [HO]
  · isplitr [Hrest]
    · isplitl [HA]; · iexact HA
      isplitl [Hp]; · iexact Hp
      isplitl [HB]; · iexact HB
      isplitl [HC]; · iexact HC
      isplitl [HD]; · iexact HD
      iexact Ha
    · iexact Hrest
  iexact HO

/-- The chunk has come from `yp c`. -/
theorem wait_rf (K : GSem nD τ sig → ℕ) (c : Dev nD) (st st' : Ch → ℕ) (ch : Ch) (q : DmaSem sig) (hq : q = rf ch)
    (h0 : st ch = 5) (h1 : st' ch = 6) (hst : ∀ ch', ch' ≠ ch → st' ch' = st ch') (hall : ∀ ch, 3 ≤ st ch)
    {sp sp' : Space} {s : Shape} {e : EltTy} {src : Memref sig .tc sp s e} {dst : Memref sig .tc sp' s e} {h₁ h₂}
    (hN : dst.view.dmaCredit = amt (isV ch))
    {α : Type} {Q : α → sProp 𝕄} {k : PUnit → Prog (TpuEff nD τ sig (Elt F) Λ₀ .tc) α} :
    iprop(Mid m K c st ∗ (Mid m K c st' -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 q src dst h₁ h₂) k) Q := by
  unfold Mid
  rw [mid_rch m c st ch, mid_rch m c st' ch, h0, h1, rest_congr m c st st' ch hst,
    ow_wait c st st' ch hst (by rw [h0, h1]; decide) (by rw [h0, h1]; decide)]
  iintro ⟨⟨#HP, #HL, ⟨HR, Hrest⟩, ⟨%W, HO⟩⟩, Hk⟩
  ihave #HPc := (mid_pers m K c ch) $$ HP
  unfold PersCh
  icases HPc with ⟨-, -, -, HI, -⟩
  simp only [Rch]
  icases HR with ⟨HA, HB, ⟨Ha, Hc⟩, HC, HD, HE⟩
  iapply (wait_dma m K c ch (rf ch) q hq (le_rf ch) (chOf_rf ch) hN (Ow c st) W 3 (by rw [lvS_rf]) (by rw [ow_none3 c st hall]; exact above_owM3 c)) $$ [Ha Hc HO]
  · isplitr; · iexact HI
    isplitr; · iexact HL
    isplitl [Ha]; · iexact Ha
    isplitl [Hc]; · iexact Hc
    iexact HO
  rw [pay_rf]
  iintro ⟨HO, Ha, Hp⟩
  iapply Hk
  isplitr; · iexact HP
  isplitr; · iexact HL
  isplitr [HO]
  · isplitr [Hrest]
    · isplitl [HA]; · iexact HA
      isplitl [HB]; · iexact HB
      isplitl [Hp]; · iexact Hp
      isplitl [HC]; · iexact HC
      isplitl [HD]; · iexact HD
      isplitl [HE]; · iexact HE
      iexact Ha
    · iexact Hrest
  iexact HO

end Cert.Attn

end
-- ==== Proof.Data.lean ====
/-
The kernel's own loads and stores: what the staging buffers and the two scratch buffers hold, batch by batch, what a
load of one head reads, and what the stores of the first slot and of the output leave behind.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type} {Q : α → sProp (MT nD τ sig Unit (Elt F) ℕ UU ℕ)}

/-! ## Batches -/

theorem setOn_whole (b : Ref sig .tc) (M) : (View.whole b).setOn M = M := by
  ext i
  simp only [View.setOn, Finset.mem_map]
  exact ⟨fun ⟨x, hx, e⟩ => e ▸ hx, fun h => ⟨i, h, rfl⟩⟩

/-- One batch of one slot. -/
def bat (s b : ℕ) : Finset I5 := Finset.univ.filter fun i => (i 0).val = s ∧ (i 1).val = b
theorem mem_bat {s b : ℕ} {i : I5} : i ∈ bat s b ↔ (i 0).val = s ∧ (i 1).val = b := by simp [bat]

abbrev rQ (off : Fin 4 → ℕ) (h : ∀ a, off a + S1x1x64x512.size a ≤ S2x8x64x512.size a) : Rect S2x8x64x512 :=
  Rect.unit (s := S2x8x64x512) off S1x1x64x512.size h
abbrev rB (off : Fin 4 → ℕ) (h : ∀ a, off a + S1x8x64x512.size a ≤ S2x8x64x512.size a) : Rect S2x8x64x512 :=
  Rect.unit (s := S2x8x64x512) off S1x8x64x512.size h
abbrev rS (off : Fin 5 → ℕ) (h : ∀ a, off a + S1x1x8x64x512.size a ≤ S2x2x8x64x512.size a) : Rect S2x2x8x64x512 :=
  Rect.unit (s := S2x2x8x64x512) off S1x1x8x64x512.size h
abbrev rH (off : Fin 5 → ℕ) (h : ∀ a, off a + S1x1x1x64x512.size a ≤ S2x2x8x64x512.size a) : Rect S2x2x8x64x512 :=
  Rect.unit (s := S2x2x8x64x512) off S1x1x1x64x512.size h

theorem inbQ (b : Fin 2) (h : Fin 8) (a : Fin 4) : (![b.val, h.val, 0, 0] : Fin 4 → ℕ) a + S1x1x64x512.size a ≤ S2x8x64x512.size a := by
  revert b h a; decide
theorem inbB (b : Fin 2) (a : Fin 4) : (![b.val, 0, 0, 0] : Fin 4 → ℕ) a + S1x8x64x512.size a ≤ S2x8x64x512.size a := by
  revert b a; decide
theorem inbH (b : Fin 2) (h : Fin 8) (a : Fin 5) : (![1, b.val, h.val, 0, 0] : Fin 5 → ℕ) a + S1x1x1x64x512.size a ≤ S2x2x8x64x512.size a := by
  revert b h a; decide

theorem rS_set (s b : ℕ) (off) (h) (ho : off = ![s, b, 0, 0, 0]) : (rS off h).set = bat s b := by
  subst ho
  ext i
  rw [Rect.mem_set_unit, mem_bat]
  have h2 : (i 2).val < 8 := (i 2).isLt
  have h3 : (i 3).val < 64 := (i 3).isLt
  have h4 : (i 4).val < 512 := (i 4).isLt
  constructor
  · intro h
    have h0 : s ≤ (i 0).val ∧ (i 0).val < s + 1 := h 0
    have h1 : b ≤ (i 1).val ∧ (i 1).val < b + 1 := h 1
    omega
  · rintro ⟨h0, h1⟩ a
    fin_cases a
    · show s ≤ (i 0).val ∧ (i 0).val < s + 1; omega
    · show b ≤ (i 1).val ∧ (i 1).val < b + 1; omega
    · show 0 ≤ (i 2).val ∧ (i 2).val < 0 + 8; omega
    · show 0 ≤ (i 3).val ∧ (i 3).val < 0 + 64; omega
    · show 0 ≤ (i 4).val ∧ (i 4).val < 0 + 512; omega

theorem rH_set (s b j : ℕ) (off) (h) (ho : off = ![s, b, j, 0, 0]) : (rH off h).set ⊆ bat s b := by
  subst ho
  intro i hi
  rw [Rect.mem_set_unit] at hi
  rw [mem_bat]
  have h0 : s ≤ (i 0).val ∧ (i 0).val < s + 1 := hi 0
  have h1 : b ≤ (i 1).val ∧ (i 1).val < b + 1 := hi 1
  omega

/-! ## The heads a load reads -/

/-- Head `h` of batch `b` of device `c`'s own queries, keys, values. -/
def qld (c : Dev nD) (b : Fin 2) (h : Fin 8) : FVec F S1x1x64x512 .bf16 := fun x => qst m c ((rQ ![b.val, h.val, 0, 0] (inbQ b h)).idx x)
def kld (c : Dev nD) (b : Fin 2) (h : Fin 8) : FVec F S1x1x64x512 .bf16 := fun x => kst m c ((rQ ![b.val, h.val, 0, 0] (inbQ b h)).idx x)
def vld (c : Dev nD) (b : Fin 2) (h : Fin 8) : FVec F S1x1x64x512 .bf16 := fun x => vst m c ((rQ ![b.val, h.val, 0, 0] (inbQ b h)).idx x)

/-- Whose keys and values batch `b` of device `c`'s second slot holds in the end. -/
def src (c : Dev nD) (b : ℕ) : Dev nD := if yb c = b then xp c else xp (yp c)

/-- Head `h` of batch `b` of the received keys, values. -/
def kld1 (c : Dev nD) (b : Fin 2) (h : Fin 8) : FVec F S1x1x1x64x512 .bf16 := fun x => kImg m (src c b.val) ((rH ![1, b.val, h.val, 0, 0] (inbH b h)).idx x)
def vld1 (c : Dev nD) (b : Fin 2) (h : Fin 8) : FVec F S1x1x1x64x512 .fp8e4m3 := fun x => vImg m (src c b.val) ((rH ![1, b.val, h.val, 0, 0] (inbH b h)).idx x)

/-- A batch of device `c`'s own keys, values. -/
def kbl (c : Dev nD) (b : Fin 2) : FVec F S1x8x64x512 .bf16 := fun x => kst m c ((rB ![b.val, 0, 0, 0] (inbB b)).idx x)
def vbl (c : Dev nD) (b : Fin 2) : FVec F S1x8x64x512 .bf16 := fun x => vst m c ((rB ![b.val, 0, 0, 0] (inbB b)).idx x)

/-- Head `h` of batch `b` of the output. -/
def OUTP (c : Dev nD) (b : Fin 2) (h : Fin 8) : FVec F S1x1x64x512 .f32 :=
  k0_pay81 (k0_pay10 (qld m c b h)) (k0_pay12 (qld m c b h) (kld m c b h)) (k0_pay13 (qld m c b h) (kld m c b h) (vld m c b h)) (kld1 m c b h) (vld1 m c b h)

/-- Where a head's element stands in a block with two leading axes of one element. -/
def inHead (i : I4) : S1x1x64x512.Idx := fun a => match a with | 0 => (0 : Fin 1) | 1 => (0 : Fin 1) | 2 => i 2 | 3 => i 3

/-- The output device `c` leaves. -/
def oImg (c : Dev nD) : (cc0_stg3_0 : Ref sig .tc).ty.Contents (Elt F) := fun i : I4 => OUTP m c (i 0) (i 1) (inHead i)

/-! ## The resources -/

/-- The three staged inputs. -/
def StgI (c : Dev nD) : sProp 𝕄 :=
  iprop((((c : Thread nD τ).loc cc0_stg0_0) ↦{fullShare} qst m c) ∗ (((c : Thread nD τ).loc cc0_stg1_0) ↦{fullShare} kst m c)
    ∗ (((c : Thread nD τ).loc cc0_stg2_0) ↦{fullShare} vst m c))

/-- The output's staging buffer, the first `n` heads written. -/
def outP (c : Dev nD) (n : ℕ) : sProp 𝕄 :=
  iprop(∃ f : Buf (Elt F) ((c : Thread nD τ).loc cc0_stg3_0), ⌜∀ i : I4, 8 * (i 0).val + (i 1).val < n → f i = oImg m c i⌝
    ∗ (((c : Thread nD τ).loc cc0_stg3_0) ↦{fullShare} f))

/-! ## Loads of the staged inputs -/

theorem load_q (c : Dev nD) (b : Fin 2) (h : Fin 8) {off} {hh} (ho : off = ![b.val, h.val, 0, 0]) {hl}
    {k : Vec F S1x1x64x512 .bf16 → Prog (TpuEff nD τ sig (Elt F) Λ₀ .tc) α} :
    iprop(StgI m c ∗ (StgI m c -∗ wp frame (wpE (defs₀ (F := F)) 𝒱₀ (c : Thread nD τ) none) Set.univ (k (qld m c b h)) Q)) ⊢ wp frame (wpE (defs₀ (F := F)) 𝒱₀ (c : Thread nD τ) none) Set.univ (.op (.load qS (rQ off hh).toLoadRect hl) k) Q := by
  subst ho
  unfold StgI
  iintro ⟨⟨Hq, HR⟩, Hk⟩
  iapply (wp_load 𝒱₀ (c : Thread nD τ) none Set.univ (m := qS) (Finset.subset_univ _)) $$ Hq
  iintro Hq
  iapply Hk
  iframe Hq HR

theorem load_k (c : Dev nD) (b : Fin 2) (h : Fin 8) {off} {hh} (ho : off = ![b.val, h.val, 0, 0]) {hl}
    {k : Vec F S1x1x64x512 .bf16 → Prog (TpuEff nD τ sig (Elt F) Λ₀ .tc) α} :
    iprop(StgI m c ∗ (StgI m c -∗ wp frame (wpE (defs₀ (F := F)) 𝒱₀ (c : Thread nD τ) none) Set.univ (k (kld m c b h)) Q)) ⊢ wp frame (wpE (defs₀ (F := F)) 𝒱₀ (c : Thread nD τ) none) Set.univ (.op (.load kS (rQ off hh).toLoadRect hl) k) Q := by
  subst ho
  unfold StgI
  iintro ⟨⟨Hq, Hx, HR⟩, Hk⟩
  iapply (wp_load 𝒱₀ (c : Thread nD τ) none Set.univ (m := kS) (Finset.subset_univ _)) $$ Hx
  iintro Hx
  iapply Hk
  iframe Hq Hx HR

theorem load_v (c : Dev nD) (b : Fin 2) (h : Fin 8) {off} {hh} (ho : off = ![b.val, h.val, 0, 0]) {hl}
    {k : Vec F S1x1x64x512 .bf16 → Prog (TpuEff nD τ sig (Elt F) Λ₀ .tc) α} :
    iprop(StgI m c ∗ (StgI m c -∗ wp frame (wpE (defs₀ (F := F)) 𝒱₀ (c : Thread nD τ) none) Set.univ (k (vld m c b h)) Q)) ⊢ wp frame (wpE (defs₀ (F := F)) 𝒱₀ (c : Thread nD τ) none) Set.univ (.op (.load vS (rQ off hh).toLoadRect hl) k) Q := by
  subst ho
  unfold StgI
  iintro ⟨⟨Hq, Hy, Hx⟩, Hk⟩
  iapply (wp_load 𝒱₀ (c : Thread nD τ) none Set.univ (m := vS) (Finset.subset_univ _)) $$ Hx
  iintro Hx
  iapply Hk
  iframe Hq Hy Hx

theorem load_kb (c : Dev nD) (b : Fin 2) {off} {hh} (ho : off = ![b.val, 0, 0, 0]) {hl}
    {k : Vec F S1x8x64x512 .bf16 → Prog (TpuEff nD τ sig (Elt F) Λ₀ .tc) α} :
    iprop(StgI m c ∗ (StgI m c -∗ wp frame (wpE (defs₀ (F := F)) 𝒱₀ (c : Thread nD τ) none) Set.univ (k (kbl m c b)) Q)) ⊢ wp frame (wpE (defs₀ (F := F)) 𝒱₀ (c : Thread nD τ) none) Set.univ (.op (.load kS (rB off hh).toLoadRect hl) k) Q := by
  subst ho
  unfold StgI
  iintro ⟨⟨Hq, Hx, HR⟩, Hk⟩
  iapply (wp_load 𝒱₀ (c : Thread nD τ) none Set.univ (m := kS) (Finset.subset_univ _)) $$ Hx
  iintro Hx
  iapply Hk
  iframe Hq Hx HR

theorem load_vb (c : Dev nD) (b : Fin 2) {off} {hh} (ho : off = ![b.val, 0, 0, 0]) {hl}
    {k : Vec F S1x8x64x512 .bf16 → Prog (TpuEff nD τ sig (Elt F) Λ₀ .tc) α} :
    iprop(StgI m c ∗ (StgI m c -∗ wp frame (wpE (defs₀ (F := F)) 𝒱₀ (c : Thread nD τ) none) Set.univ (k (vbl m c b)) Q)) ⊢ wp frame (wpE (defs₀ (F := F)) 𝒱₀ (c : Thread nD τ) none) Set.univ (.op (.load vS (rB off hh).toLoadRect hl) k) Q := by
  subst ho
  unfold StgI
  iintro ⟨⟨Hq, Hy, Hx⟩, Hk⟩
  iapply (wp_load 𝒱₀ (c : Thread nD τ) none Set.univ (m := vS) (Finset.subset_univ _)) $$ Hx
  iintro Hx
  iapply Hk
  iframe Hq Hy Hx

/-! ## Loads of the received heads -/

theorem load_k1 (c : Dev nD) (b : Fin 2) (h : Fin 8) {off} {hh} (ho : off = ![1, b.val, h.val, 0, 0]) {hl}
    {k : Vec F S1x1x1x64x512 .bf16 → Prog (TpuEff nD τ sig (Elt F) Λ₀ .tc) α} :
    iprop(kReg m c (bat 1 b.val) (src c b.val) ∗ (kReg m c (bat 1 b.val) (src c b.val) -∗ wp frame (wpE (defs₀ (F := F)) 𝒱₀ (c : Thread nD τ) none) Set.univ (k (kld1 m c b h)) Q))
      ⊢ wp frame (wpE (defs₀ (F := F)) 𝒱₀ (c : Thread nD τ) none) Set.univ (.op (.load kM (rH off hh).toLoadRect hl) k) Q := by
  subst ho
  unfold kReg
  iintro ⟨Hx, Hk⟩
  iapply (wp_load 𝒱₀ (c : Thread nD τ) none Set.univ (m := kM) (S := bat 1 b.val)
    ((setOn_whole cc0_scratch0 _).subset.trans (rH_set 1 b.val h.val _ _ rfl))) $$ Hx
  iintro Hx
  iapply Hk
  iexact Hx

theorem load_v1 (c : Dev nD) (b : Fin 2) (h : Fin 8) {off} {hh} (ho : off = ![1, b.val, h.val, 0, 0]) {hl}
    {k : Vec F S1x1x1x64x512 .fp8e4m3 → Prog (TpuEff nD τ sig (Elt F) Λ₀ .tc) α} :
    iprop(vReg m c (bat 1 b.val) (src c b.val) ∗ (vReg m c (bat 1 b.val) (src c b.val) -∗ wp frame (wpE (defs₀ (F := F)) 𝒱₀ (c : Thread nD τ) none) Set.univ (k (vld1 m c b h)) Q))
      ⊢ wp frame (wpE (defs₀ (F := F)) 𝒱₀ (c : Thread nD τ) none) Set.univ (.op (.load vM (rH off hh).toLoadRect hl) k) Q := by
  subst ho
  unfold vReg
  iintro ⟨Hx, Hk⟩
  iapply (wp_load 𝒱₀ (c : Thread nD τ) none Set.univ (m := vM) (S := bat 1 b.val)
    ((setOn_whole cc0_scratch1 _).subset.trans (rH_set 1 b.val h.val _ _ rfl))) $$ Hx
  iintro Hx
  iapply Hk
  iexact Hx

/-! ## Loads whose value is not used -/

theorem load_kAny (c : Dev nD) (b : ℕ) {off} {hh} (ho : off = ![0, b, 0, 0, 0]) {hl}
    {k : Vec F S1x1x8x64x512 .bf16 → Prog (TpuEff nD τ sig (Elt F) Λ₀ .tc) α} :
    iprop(kAny c (bat 0 b) ∗ (∀ v, kAny c (bat 0 b) -∗ wp frame (wpE (defs₀ (F := F)) 𝒱₀ (c : Thread nD τ) none) Set.univ (k v) Q)) ⊢ wp frame (wpE (defs₀ (F := F)) 𝒱₀ (c : Thread nD τ) none) Set.univ (.op (.load kM (rS off hh).toLoadRect hl) k) Q := by
  unfold kAny
  iintro ⟨⟨%f, Hx⟩, Hk⟩
  iapply (wp_load 𝒱₀ (c : Thread nD τ) none Set.univ (m := kM) (S := bat 0 b)
    ((setOn_whole cc0_scratch0 _).subset.trans (rS_set 0 b _ hh ho).subset)) $$ Hx
  iintro Hx
  iapply Hk
  iexists f
  iexact Hx

theorem load_vAny (c : Dev nD) (b : ℕ) {off} {hh} (ho : off = ![0, b, 0, 0, 0]) {hl}
    {k : Vec F S1x1x8x64x512 .fp8e4m3 → Prog (TpuEff nD τ sig (Elt F) Λ₀ .tc) α} :
    iprop(vAny c (bat 0 b) ∗ (∀ v, vAny c (bat 0 b) -∗ wp frame (wpE (defs₀ (F := F)) 𝒱₀ (c : Thread nD τ) none) Set.univ (k v) Q)) ⊢ wp frame (wpE (defs₀ (F := F)) 𝒱₀ (c : Thread nD τ) none) Set.univ (.op (.load vM (rS off hh).toLoadRect hl) k) Q := by
  unfold vAny
  iintro ⟨⟨%f, Hx⟩, Hk⟩
  iapply (wp_load 𝒱₀ (c : Thread nD τ) none Set.univ (m := vM) (S := bat 0 b)
    ((setOn_whole cc0_scratch1 _).subset.trans (rS_set 0 b _ hh ho).subset)) $$ Hx
  iintro Hx
  iapply Hk
  iexists f
  iexact Hx

theorem load_o (c : Dev nD) (n : ℕ) {off} {hh} {hl}
    {k : Vec F S1x1x64x512 .f32 → Prog (TpuEff nD τ sig (Elt F) Λ₀ .tc) α} :
    iprop(outP m c n ∗ (∀ v, outP m c n -∗ wp frame (wpE (defs₀ (F := F)) 𝒱₀ (c : Thread nD τ) none) Set.univ (k v) Q)) ⊢ wp frame (wpE (defs₀ (F := F)) 𝒱₀ (c : Thread nD τ) none) Set.univ (.op (.load oS (rQ off hh).toLoadRect hl) k) Q := by
  unfold outP
  iintro ⟨⟨%f, %hf, Hx⟩, Hk⟩
  iapply (wp_load 𝒱₀ (c : Thread nD τ) none Set.univ (m := oS) (Finset.subset_univ _)) $$ Hx
  iintro Hx
  iapply Hk
  iexists f
  isplitr
  · ipureintro; exact hf
  iexact Hx

/-! ## Stores -/

theorem rS_reshape (x : S1x1x8x64x512.Idx) (b : Fin 2) (h) :
    (rB ![b.val, 0, 0, 0] (inbB b)).idx (Shape.reshapeEquiv shapeCasts_S1x8x64x512_S8x64x512 (Shape.reshapeEquiv shapeCasts_S8x64x512_S1x1x8x64x512 x))
      = tail4 ((rS ![0, b.val, 0, 0, 0] h).idx x) := by
  rw [Shape.reshapeEquiv_reshapeEquiv, Shape.reshapeEquiv_eq_of_rowMajor (y := fun a => x a.succ)]
  · funext a
    apply Fin.ext
    fin_cases a
    · have h0 : (x 1).val < 1 := (x 1).isLt
      show b.val + 1 * (x 1).val = b.val + 1 * (x 1).val
      rfl
    all_goals rfl
  · refine (Shape.rowMajor_val_four (d := ![1, 8, 64, 512]) _).trans (Eq.trans ?_ (Shape.rowMajor_val_five (d := ![1, 1, 8, 64, 512]) x).symm)
    have h0 : (x 0).val < 1 := (x 0).isLt
    show (((x 1).val * 8 + (x 2).val) * 64 + (x 3).val) * 512 + (x 4).val
      = ((((x 0).val * 1 + (x 1).val) * 8 + (x 2).val) * 64 + (x 3).val) * 512 + (x 4).val
    have : (x 0).val = 0 := by omega
    rw [this]; omega

theorem pay1_at (c : Dev nD) (b : Fin 2) (h) (x : S1x1x8x64x512.Idx) :
    k0_pay1 (kbl m c b) x = kImg m c ((rS ![0, b.val, 0, 0, 0] h).idx x) := by
  show kst m c _ = kst m c _
  exact congrArg _ (rS_reshape x b h)

theorem pay2_at (c : Dev nD) (b : Fin 2) (h) (x : S1x1x8x64x512.Idx) :
    k0_pay2 (vbl m c b) x = vImg m c ((rS ![0, b.val, 0, 0, 0] h).idx x) := by
  show FloatOps.truncf _ _ (vst m c _) = FloatOps.truncf _ _ (vst m c _)
  exact congrArg _ (congrArg _ (rS_reshape x b h))

theorem store_k_img (c : Dev nD) (b : Fin 2) (hh) (f : (cc0_scratch0 : Ref sig .tc).ty.Contents (Elt F)) (i) (hi : i ∈ bat 0 b.val) :
    (kM.access (rS ![0, b.val, 0, 0, 0] hh)).write (Elt F) f (k0_pay1 (kbl m c b)) Finset.univ i = kImg m c i := by
  rw [← rS_set 0 b.val _ hh rfl] at hi
  obtain ⟨x, -, rfl⟩ := Finset.mem_map.mp ((Finset.ext_iff.mp (View.set_slice_whole cc0_scratch0 (rS ![0, b.val, 0, 0, 0] hh)) i).mpr hi)
  refine (View.write_emb (v := kM.access (rS ![0, b.val, 0, 0, 0] hh)) (Val := Elt F) f _ Finset.univ x).trans ?_
  rw [if_pos (Finset.mem_univ _)]
  exact pay1_at m c b hh x

theorem store_v_img (c : Dev nD) (b : Fin 2) (hh) (f : (cc0_scratch1 : Ref sig .tc).ty.Contents (Elt F)) (i) (hi : i ∈ bat 0 b.val) :
    (vM.access (rS ![0, b.val, 0, 0, 0] hh)).write (Elt F) f (k0_pay2 (vbl m c b)) Finset.univ i = vImg m c i := by
  rw [← rS_set 0 b.val _ hh rfl] at hi
  obtain ⟨x, -, rfl⟩ := Finset.mem_map.mp ((Finset.ext_iff.mp (View.set_slice_whole cc0_scratch1 (rS ![0, b.val, 0, 0, 0] hh)) i).mpr hi)
  refine (View.write_emb (v := vM.access (rS ![0, b.val, 0, 0, 0] hh)) (Val := Elt F) f _ Finset.univ x).trans ?_
  rw [if_pos (Finset.mem_univ _)]
  exact pay2_at m c b hh x

theorem store_k (c : Dev nD) (b : Fin 2) {off} {hh} (ho : off = ![0, b.val, 0, 0, 0]) {w} (hw : w = k0_pay1 (kbl m c b)) {hx hm}
    {k : PUnit → Prog (TpuEff nD τ sig (Elt F) Λ₀ .tc) α} :
    iprop(kAny c (bat 0 b.val) ∗ (kReg m c (bat 0 b.val) c -∗ wp frame (wpE (defs₀ (F := F)) 𝒱₀ (c : Thread nD τ) none) Set.univ (k ⟨⟩) Q))
      ⊢ wp frame (wpE (defs₀ (F := F)) 𝒱₀ (c : Thread nD τ) none) Set.univ (.op (.store kM (rS off hh) w Finset.univ hx hm) k) Q := by
  subst hw
  subst ho
  unfold kAny kReg
  iintro ⟨⟨%f, Hx⟩, Hk⟩
  iapply (wp_store 𝒱₀ (c : Thread nD τ) none Set.univ (m := kM) (r := rS ![0, b.val, 0, 0, 0] hh) (Mk := Finset.univ) (S := bat 0 b.val)
    (((View.set_slice_whole cc0_scratch0 _).trans (rS_set 0 b.val _ hh rfl)).subset)) $$ Hx
  iintro Hx
  iapply Hk
  iapply (Entails.of_eq (pointsTo_congr (store_k_img m c b hh f)))
  iexact Hx

theorem store_v (c : Dev nD) (b : Fin 2) {off} {hh} (ho : off = ![0, b.val, 0, 0, 0]) {w} (hw : w = k0_pay2 (vbl m c b)) {hx hm}
    {k : PUnit → Prog (TpuEff nD τ sig (Elt F) Λ₀ .tc) α} :
    iprop(vAny c (bat 0 b.val) ∗ (vReg m c (bat 0 b.val) c -∗ wp frame (wpE (defs₀ (F := F)) 𝒱₀ (c : Thread nD τ) none) Set.univ (k ⟨⟩) Q))
      ⊢ wp frame (wpE (defs₀ (F := F)) 𝒱₀ (c : Thread nD τ) none) Set.univ (.op (.store vM (rS off hh) w Finset.univ hx hm) k) Q := by
  subst hw
  subst ho
  unfold vAny vReg
  iintro ⟨⟨%f, Hx⟩, Hk⟩
  iapply (wp_store 𝒱₀ (c : Thread nD τ) none Set.univ (m := vM) (r := rS ![0, b.val, 0, 0, 0] hh) (Mk := Finset.univ) (S := bat 0 b.val)
    (((View.set_slice_whole cc0_scratch1 _).trans (rS_set 0 b.val _ hh rfl)).subset)) $$ Hx
  iintro Hx
  iapply Hk
  iapply (Entails.of_eq (pointsTo_congr (store_v_img m c b hh f)))
  iexact Hx

/-- Storing a head's output leaves the image there and nothing changed elsewhere. -/
theorem store_o_img (c : Dev nD) (b : Fin 2) (h : Fin 8) (hh) (f : (cc0_stg3_0 : Ref sig .tc).ty.Contents (Elt F))
    (hf : ∀ i : I4, 8 * (i 0).val + (i 1).val < 8 * b.val + h.val → f i = oImg m c i) (i : I4) (hi : 8 * (i 0).val + (i 1).val < 8 * b.val + h.val + 1) :
    (oS.access (rQ ![b.val, h.val, 0, 0] hh)).write (Elt F) f (OUTP m c b h) Finset.univ i = oImg m c i := by
  have h1 : (i 1).val < 8 := (i 1).isLt
  have h8 : h.val < 8 := h.isLt
  have hset : (oS.access (rQ ![b.val, h.val, 0, 0] hh)).set = (rQ ![b.val, h.val, 0, 0] hh).set := View.set_slice_whole cc0_stg3_0 _
  by_cases hm : i ∈ (rQ ![b.val, h.val, 0, 0] hh).set
  · obtain ⟨x, -, rfl⟩ := Finset.mem_map.mp ((Finset.ext_iff.mp hset i).mpr hm)
    refine (View.write_emb (v := oS.access (rQ ![b.val, h.val, 0, 0] hh)) (Val := Elt F) f _ Finset.univ x).trans ?_
    rw [if_pos (Finset.mem_univ _)]
    have x0 : (x 0).val < 1 := (x 0).isLt
    have x1 : (x 1).val < 1 := (x 1).isLt
    have e0 : ((rQ ![b.val, h.val, 0, 0] hh).idx x) 0 = b := by apply Fin.ext; show b.val + 1 * (x 0).val = b.val; omega
    have e1 : ((rQ ![b.val, h.val, 0, 0] hh).idx x) 1 = h := by apply Fin.ext; show h.val + 1 * (x 1).val = h.val; omega
    have e2 : inHead ((rQ ![b.val, h.val, 0, 0] hh).idx x) = x := by
      funext a
      apply Fin.ext
      fin_cases a
      · show 0 = (x 0).val; omega
      · show 0 = (x 1).val; omega
      · show 0 + 1 * (x 2).val = (x 2).val; omega
      · show 0 + 1 * (x 3).val = (x 3).val; omega
    show OUTP m c b h x = OUTP m c (((rQ ![b.val, h.val, 0, 0] hh).idx x) 0) (((rQ ![b.val, h.val, 0, 0] hh).idx x) 1) (inHead ((rQ ![b.val, h.val, 0, 0] hh).idx x))
    rw [e0, e1, e2]
  · refine (View.write_of_not_mem (v := oS.access (rQ ![b.val, h.val, 0, 0] hh)) (Val := Elt F) f _ Finset.univ (fun hc => hm ((Finset.ext_iff.mp hset i).mp hc))).trans (hf i ?_)
    by_contra hlt
    refine hm ?_
    rw [Rect.mem_set_unit]
    have e0 : (i 0).val = b.val := by omega
    have e1 : (i 1).val = h.val := by omega
    have h2 : (i 2).val < 64 := (i 2).isLt
    have h3 : (i 3).val < 512 := (i 3).isLt
    intro a
    fin_cases a
    · show b.val ≤ (i 0).val ∧ (i 0).val < b.val + 1; omega
    · show h.val ≤ (i 1).val ∧ (i 1).val < h.val + 1; omega
    · show 0 ≤ (i 2).val ∧ (i 2).val < 0 + 64; omega
    · show 0 ≤ (i 3).val ∧ (i 3).val < 0 + 512; omega

theorem store_o (c : Dev nD) (b : Fin 2) (h : Fin 8) (n n' : ℕ) (hn : n = 8 * b.val + h.val) (hn' : n' = n + 1) {off} {hh}
    (ho : off = ![b.val, h.val, 0, 0]) {w} (hw : w = OUTP m c b h) {hx hm}
    {k : PUnit → Prog (TpuEff nD τ sig (Elt F) Λ₀ .tc) α} :
    iprop(outP m c n ∗ (outP m c n' -∗ wp frame (wpE (defs₀ (F := F)) 𝒱₀ (c : Thread nD τ) none) Set.univ (k ⟨⟩) Q))
      ⊢ wp frame (wpE (defs₀ (F := F)) 𝒱₀ (c : Thread nD τ) none) Set.univ (.op (.store oS (rQ off hh) w Finset.univ hx hm) k) Q := by
  subst hw
  subst ho
  subst hn'
  subst hn
  unfold outP
  iintro ⟨⟨%f, %hf, Hx⟩, Hk⟩
  iapply (wp_store 𝒱₀ (c : Thread nD τ) none Set.univ (m := oS) (r := rQ ![b.val, h.val, 0, 0] hh) (Mk := Finset.univ) (Finset.subset_univ _)) $$ Hx
  iintro Hx
  iapply Hk
  iexists _
  isplitr
  · ipureintro; exact store_o_img m c b h hh f hf
  iexact Hx

end Cert.Attn
-- ==== Proof.Split.lean ====
/-
Taking the two scratch buffers apart into batches and chunks, and putting them together again.
-/
module

public import proofs.«01_k».proof.Proof.Data

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bat_eq (s b : ℕ) : bat s b = Finset.univ.biUnion fun j : Fin 4 => reg s b j.val := by
  ext i
  have h2 : (i 2).val < 8 := (i 2).isLt
  rw [mem_bat, Finset.mem_biUnion]
  constructor
  · rintro ⟨h0, h1⟩
    exact ⟨⟨(i 2).val / 2, by omega⟩, Finset.mem_univ _, mem_reg.mpr ⟨h0, h1, rfl⟩⟩
  · rintro ⟨j, -, h⟩
    exact ⟨(mem_reg.mp h).1, (mem_reg.mp h).2.1⟩

theorem reg_disjoint (s b : ℕ) (t t' : Fin 4) (h : t ≠ t') : Disjoint (reg s b t.val) (reg s b t'.val) :=
  Finset.disjoint_left.mpr fun i hi hi' => h (Fin.ext ((mem_reg.mp hi).2.2.symm.trans (mem_reg.mp hi').2.2))

theorem bats_disjoint (s : ℕ) : Disjoint (bat s 0) (bat s 1) :=
  Finset.disjoint_left.mpr fun i hi hi' => absurd ((mem_bat.mp hi).2.symm.trans (mem_bat.mp hi').2) (by decide)
theorem slots_disjoint : Disjoint (bat 0 0 ∪ bat 0 1) (bat 1 0 ∪ bat 1 1) :=
  Finset.disjoint_left.mpr fun i hi hi' => by
    rcases Finset.mem_union.mp hi with h | h <;> rcases Finset.mem_union.mp hi' with h' | h' <;>
      exact absurd ((mem_bat.mp h).1.symm.trans (mem_bat.mp h').1) (by decide)
theorem univ_bats : (Finset.univ : Finset I5) = (bat 0 0 ∪ bat 0 1) ∪ (bat 1 0 ∪ bat 1 1) := by
  ext i
  have h0 : (i 0).val < 2 := (i 0).isLt
  have h1 : (i 1).val < 2 := (i 1).isLt
  simp only [Finset.mem_univ, true_iff, Finset.mem_union, mem_bat]
  omega

theorem kReg_bat (c : Dev nD) (s b : ℕ) (d : Dev nD) :
    kReg m c (bat s b) d = bigSep Finset.univ fun j : Fin 4 => kReg m c (reg s b j.val) d := by
  unfold kReg
  rw [bat_eq]
  exact pointsTo_biUnion (ℓ := (c : Thread nD τ).loc cc0_scratch0) (f := kImg m d) (q := fullShare) Finset.univ
    (fun j : Fin 4 => reg s b j.val) fun t _ t' _ h => reg_disjoint s b t t' h

theorem kAny_bat (c : Dev nD) (s b : ℕ) :
    kAny (F := F) c (bat s b) ⊢ bigSep Finset.univ fun j : Fin 4 => kAny (F := F) c (reg s b j.val) := by
  have hm : ∀ f : Buf (Elt F) ((c : Thread nD τ).loc cc0_scratch0),
      (bigSep Finset.univ fun j : Fin 4 => (((c : Thread nD τ).loc cc0_scratch0) ↦[reg s b j.val]{fullShare} f : sProp (MT nD τ sig Unit (Elt F) ℕ UU ℕ)))
        ⊢ bigSep Finset.univ fun j : Fin 4 => kAny (F := F) c (reg s b j.val) := fun f =>
    bigSep_mono fun j _ => show (((c : Thread nD τ).loc cc0_scratch0) ↦[reg s b j.val]{fullShare} f : sProp (MT nD τ sig Unit (Elt F) ℕ UU ℕ)) ⊢ kAny (F := F) c (reg s b j.val) from by
      unfold kAny; iintro H; iexists f; iexact H
  refine BIBase.Entails.trans ?_ (exists_elim hm)
  unfold kAny
  rw [bat_eq]
  iintro ⟨%f, H⟩
  iexists f
  iapply (Entails.of_eq (pointsTo_biUnion (ℓ := (c : Thread nD τ).loc cc0_scratch0) (f := f) (q := fullShare) Finset.univ
    (fun j : Fin 4 => reg s b j.val) fun t _ t' _ h => reg_disjoint s b t t' h))
  iexact H

theorem kReg_any (c : Dev nD) (I) (d : Dev nD) : kReg m c I d ⊢ kAny (F := F) c I := by
  unfold kReg kAny
  iintro H
  iexists kImg m d
  iexact H

theorem kAny_union (c : Dev nD) {I J : Finset I5} (h : Disjoint I J) : kAny (F := F) c (I ∪ J) ⊢ iprop(kAny (F := F) c I ∗ kAny (F := F) c J) := by
  unfold kAny
  iintro ⟨%f, H⟩
  ihave ⟨H1, H2⟩ := (pointsTo_union (ℓ := (c : Thread nD τ).loc cc0_scratch0) h).1 $$ H
  isplitl [H1]
  · iexists f; iexact H1
  · iexists f; iexact H2

theorem kAny_join (c : Dev nD) {I J : Finset I5} (h : Disjoint I J) : iprop(kAny (F := F) c I ∗ kAny (F := F) c J) ⊢ kAny (F := F) c (I ∪ J) := by
  unfold kAny
  iintro ⟨⟨%f, H1⟩, ⟨%g, H2⟩⟩
  iexists (J.piecewise g f)
  iapply (pointsTo_join (ℓ := (c : Thread nD τ).loc cc0_scratch0) h)
  isplitl [H1]
  · iexact H1
  · iexact H2

/-- The whole buffer is its four batches. -/
theorem kAny_whole (c : Dev nD) : kAny (F := F) c Finset.univ
    ⊢ iprop((kAny (F := F) c (bat 0 0) ∗ kAny (F := F) c (bat 0 1)) ∗ kAny (F := F) c (bat 1 0) ∗ kAny (F := F) c (bat 1 1)) := by
  rw [univ_bats]
  refine (kAny_union c slots_disjoint).trans ?_
  iintro ⟨H0, H1⟩
  isplitl [H0]
  · iapply (kAny_union c (bats_disjoint 0)); iexact H0
  · iapply (kAny_union c (bats_disjoint 1)); iexact H1
theorem kAny_whole_join (c : Dev nD) :
    iprop((kAny (F := F) c (bat 0 0) ∗ kAny (F := F) c (bat 0 1)) ∗ kAny (F := F) c (bat 1 0) ∗ kAny (F := F) c (bat 1 1)) ⊢ kAny (F := F) c Finset.univ := by
  rw [univ_bats]
  refine BIBase.Entails.trans ?_ (kAny_join c slots_disjoint)
  iintro ⟨H0, H1⟩
  isplitl [H0]
  · iapply (kAny_join c (bats_disjoint 0)); iexact H0
  · iapply (kAny_join c (bats_disjoint 1)); iexact H1

theorem vReg_bat (c : Dev nD) (s b : ℕ) (d : Dev nD) :
    vReg m c (bat s b) d = bigSep Finset.univ fun j : Fin 4 => vReg m c (reg s b j.val) d := by
  unfold vReg
  rw [bat_eq]
  exact pointsTo_biUnion (ℓ := (c : Thread nD τ).loc cc0_scratch1) (f := vImg m d) (q := fullShare) Finset.univ
    (fun j : Fin 4 => reg s b j.val) fun t _ t' _ h => reg_disjoint s b t t' h

theorem vAny_bat (c : Dev nD) (s b : ℕ) :
    vAny (F := F) c (bat s b) ⊢ bigSep Finset.univ fun j : Fin 4 => vAny (F := F) c (reg s b j.val) := by
  have hm : ∀ f : Buf (Elt F) ((c : Thread nD τ).loc cc0_scratch1),
      (bigSep Finset.univ fun j : Fin 4 => (((c : Thread nD τ).loc cc0_scratch1) ↦[reg s b j.val]{fullShare} f : sProp (MT nD τ sig Unit (Elt F) ℕ UU ℕ)))
        ⊢ bigSep Finset.univ fun j : Fin 4 => vAny (F := F) c (reg s b j.val) := fun f =>
    bigSep_mono fun j _ => show (((c : Thread nD τ).loc cc0_scratch1) ↦[reg s b j.val]{fullShare} f : sProp (MT nD τ sig Unit (Elt F) ℕ UU ℕ)) ⊢ vAny (F := F) c (reg s b j.val) from by
      unfold vAny; iintro H; iexists f; iexact H
  refine BIBase.Entails.trans ?_ (exists_elim hm)
  unfold vAny
  rw [bat_eq]
  iintro ⟨%f, H⟩
  iexists f
  iapply (Entails.of_eq (pointsTo_biUnion (ℓ := (c : Thread nD τ).loc cc0_scratch1) (f := f) (q := fullShare) Finset.univ
    (fun j : Fin 4 => reg s b j.val) fun t _ t' _ h => reg_disjoint s b t t' h))
  iexact H

theorem vReg_any (c : Dev nD) (I) (d : Dev nD) : vReg m c I d ⊢ vAny (F := F) c I := by
  unfold vReg vAny
  iintro H
  iexists vImg m d
  iexact H

theorem vAny_union (c : Dev nD) {I J : Finset I5} (h : Disjoint I J) : vAny (F := F) c (I ∪ J) ⊢ iprop(vAny (F := F) c I ∗ vAny (F := F) c J) := by
  unfold vAny
  iintro ⟨%f, H⟩
  ihave ⟨H1, H2⟩ := (pointsTo_union (ℓ := (c : Thread nD τ).loc cc0_scratch1) h).1 $$ H
  isplitl [H1]
  · iexists f; iexact H1
  · iexists f; iexact H2

theorem vAny_join (c : Dev nD) {I J : Finset I5} (h : Disjoint I J) : iprop(vAny (F := F) c I ∗ vAny (F := F) c J) ⊢ vAny (F := F) c (I ∪ J) := by
  unfold vAny
  iintro ⟨⟨%f, H1⟩, ⟨%g, H2⟩⟩
  iexists (J.piecewise g f)
  iapply (pointsTo_join (ℓ := (c : Thread nD τ).loc cc0_scratch1) h)
  isplitl [H1]
  · iexact H1
  · iexact H2

/-- The whole buffer is its four batches. -/
theorem vAny_whole (c : Dev nD) : vAny (F := F) c Finset.univ
    ⊢ iprop((vAny (F := F) c (bat 0 0) ∗ vAny (F := F) c (bat 0 1)) ∗ vAny (F := F) c (bat 1 0) ∗ vAny (F := F) c (bat 1 1)) := by
  rw [univ_bats]
  refine (vAny_union c slots_disjoint).trans ?_
  iintro ⟨H0, H1⟩
  isplitl [H0]
  · iapply (vAny_union c (bats_disjoint 0)); iexact H0
  · iapply (vAny_union c (bats_disjoint 1)); iexact H1
theorem vAny_whole_join (c : Dev nD) :
    iprop((vAny (F := F) c (bat 0 0) ∗ vAny (F := F) c (bat 0 1)) ∗ vAny (F := F) c (bat 1 0) ∗ vAny (F := F) c (bat 1 1)) ⊢ vAny (F := F) c Finset.univ := by
  rw [univ_bats]
  refine BIBase.Entails.trans ?_ (vAny_join c slots_disjoint)
  iintro ⟨H0, H1⟩
  isplitl [H0]
  · iapply (vAny_join c (bats_disjoint 0)); iexact H0
  · iapply (vAny_join c (bats_disjoint 1)); iexact H1

/-! ## Chunks -/

omit [FloatOps F] in
theorem bigSep_ch (Φ : Ch → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) :=
  (bigSep_univ_eq_bigSepL [0, 1, 2, 3, 4, 5, 6, 7] (by decide) (by decide) Φ).trans rfl
omit [FloatOps F] in
theorem bigSep_four (Φ : Fin 4 → sProp (MT nD τ sig Unit (Elt F) ℕ UU ℕ)) :
    bigSep Finset.univ Φ = iprop(Φ 0 ∗ Φ 1 ∗ Φ 2 ∗ Φ 3) :=
  (bigSep_univ_eq_bigSepL [0, 1, 2, 3] (by decide) (by decide) Φ).trans rfl

theorem cReg_list (c : Dev nD) (s b : ℕ) (d : Dev nD) : (bigSep Finset.univ fun ch : Ch => cReg m c ch s b d)
    = iprop(kReg m c (reg s b 0) d ∗ vReg m c (reg s b 0) d ∗ kReg m c (reg s b 1) d ∗ vReg m c (reg s b 1) d ∗ kReg m c (reg s b 2) d ∗ vReg m c (reg s b 2) d ∗ kReg m c (reg s b 3) d ∗ vReg m c (reg s b 3) d) :=
  (bigSep_ch _).trans rfl
omit [FloatOps F] in
theorem cAny_list (c : Dev nD) (s b : ℕ) : (bigSep Finset.univ fun ch : Ch => cAny (F := F) c ch s b)
    = iprop(kAny (F := F) c (reg s b 0) ∗ vAny (F := F) c (reg s b 0) ∗ kAny (F := F) c (reg s b 1) ∗ vAny (F := F) c (reg s b 1) ∗ kAny (F := F) c (reg s b 2) ∗ vAny (F := F) c (reg s b 2) ∗ kAny (F := F) c (reg s b 3) ∗ vAny (F := F) c (reg s b 3)) :=
  (bigSep_ch _).trans rfl
theorem kReg_list (c : Dev nD) (s b : ℕ) (d : Dev nD) : kReg m c (bat s b) d
    = iprop(kReg m c (reg s b 0) d ∗ kReg m c (reg s b 1) d ∗ kReg m c (reg s b 2) d ∗ kReg m c (reg s b 3) d) :=
  (kReg_bat m c s b d).trans ((bigSep_four _).trans rfl)
theorem kAny_list (c : Dev nD) (s b : ℕ) : kAny (F := F) c (bat s b)
    ⊢ iprop(kAny (F := F) c (reg s b 0) ∗ kAny (F := F) c (reg s b 1) ∗ kAny (F := F) c (reg s b 2) ∗ kAny (F := F) c (reg s b 3)) :=
  (kAny_bat c s b).trans (Entails.of_eq ((bigSep_four _).trans rfl))
theorem vReg_list (c : Dev nD) (s b : ℕ) (d : Dev nD) : vReg m c (bat s b) d
    = iprop(vReg m c (reg s b 0) d ∗ vReg m c (reg s b 1) d ∗ vReg m c (reg s b 2) d ∗ vReg m c (reg s b 3) d) :=
  (vReg_bat m c s b d).trans ((bigSep_four _).trans rfl)
theorem vAny_list (c : Dev nD) (s b : ℕ) : vAny (F := F) c (bat s b)
    ⊢ iprop(vAny (F := F) c (reg s b 0) ∗ vAny (F := F) c (reg s b 1) ∗ vAny (F := F) c (reg s b 2) ∗ vAny (F := F) c (reg s b 3)) :=
  (vAny_bat c s b).trans (Entails.of_eq ((bigSep_four _).trans rfl))

theorem cReg_join (c : Dev nD) (s b : ℕ) (d : Dev nD) :
    (bigSep Finset.univ fun ch : Ch => cReg m c ch s b d) ⊢ iprop(kReg m c (bat s b) d ∗ vReg m c (bat s b) d) := by
  rw [cReg_list, kReg_list, vReg_list]
  iintro ⟨H0, H1, H2, H3, H4, H5, H6, H7⟩
  isplitl [H0 H2 H4 H6]
  · isplitl [H0]; · iexact H0
    isplitl [H2]; · iexact H2
    isplitl [H4]; · iexact H4
    iexact H6
  · isplitl [H1]; · iexact H1
    isplitl [H3]; · iexact H3
    isplitl [H5]; · iexact H5
    iexact H7

theorem cReg_split (c : Dev nD) (s b : ℕ) (d : Dev nD) :
    iprop(kReg m c (bat s b) d ∗ vReg m c (bat s b) d) ⊢ (bigSep Finset.univ fun ch : Ch => cReg m c ch s b d) := by
  rw [cReg_list, kReg_list, vReg_list]
  iintro ⟨⟨H0, H2, H4, H6⟩, ⟨H1, H3, H5, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem cAny_split (c : Dev nD) (s b : ℕ) :
    iprop(kAny (F := F) c (bat s b) ∗ vAny (F := F) c (bat s b)) ⊢ (bigSep Finset.univ fun ch : Ch => cAny (F := F) c ch s b) := by
  refine (BIClass.sep_mono (kAny_list c s b) (vAny_list c s b)).trans ?_
  rw [cAny_list]
  iintro ⟨⟨H0, H2, H4, H6⟩, ⟨H1, H3, H5, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Attn
-- ==== Proof.Parts.lean ====
/-
The kernel's program, part by part: what each part takes of the exchange's state and of the buffers, what it leaves,
what it returns.
-/
module

public import proofs.«01_k».proof.Proof.Split

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem dev_x : ∀ c : Dev nD, (4 * ((c.val / 4) % 2) + (c.val % 4) + 8) - 8 * (c.val / 8) = (xp c).val := by decide
theorem dev_y : ∀ c : Dev nD, (8 * (c.val / 8) + (c.val % 4) + 4) - 4 * ((c.val / 4) % 2) = (yp c).val := by decide

/-- The received keys and values, complete. -/
def Got (c : Dev nD) : sProp 𝕄 :=
  iprop((kReg m c (bat 1 0) (src c 0) ∗ vReg m c (bat 1 0) (src c 0)) ∗ (kReg m c (bat 1 1) (src c 1) ∗ vReg m c (bat 1 1) (src c 1)))

/-- What is left of the exchange when every transfer is over. -/
def Fin6 (K : GSem nD τ sig → ℕ) (c : Dev nD) : sProp 𝕄 :=
  iprop((bigSep Finset.univ fun ch => PersCh m K c ch) ∗ levAts L lv ∗ (kReg m c (bat 0 (yb c)) c ∗ vReg m c (bat 0 (yb c)) c)
    ∗ (bigSep Finset.univ fun ch : Ch => iprop(a₁ c (rx ch) ∗ a₁ c (sx ch) ∗ a₁ c (sf ch) ∗ a₁ c (rf ch)))
    ∗ ∃ W, owes (c : Thread nD τ) (owM c ∅ ∅) W)

theorem mid_done (K : GSem nD τ sig → ℕ) (c : Dev nD) (st : Ch → ℕ) (hst : ∀ ch, st ch = 6) : Mid m K c st ⊢ iprop(Got m c ∗ Fin6 m K c) := by
  unfold Mid
  rw [ow_none3 c st (fun ch => by rw [hst]; decide),
    show (fun ch => Rch m c ch (st ch)) = fun ch => iprop(cReg m c ch 0 (yb c) c ∗ cReg m c ch 1 (yb c) (xp c) ∗ cReg m c ch 1 (1 - yb c) (xp (yp c))
      ∗ a₁ c (rx ch) ∗ a₁ c (sx ch) ∗ a₁ c (sf ch) ∗ a₁ c (rf ch)) from funext fun ch => by rw [hst]; rfl,
    bigSep_sep', bigSep_sep', bigSep_sep']
  unfold Got Fin6
  iintro ⟨HP, HL, ⟨H0, H1, H2, HA⟩, HO⟩
  ihave ⟨HK0, HV0⟩ := (cReg_join m c 0 (yb c) c) $$ H0
  ihave ⟨HK1, HV1⟩ := (cReg_join m c 1 (yb c) (xp c)) $$ H1
  ihave ⟨HK2, HV2⟩ := (cReg_join m c 1 (1 - yb c) (xp (yp c))) $$ H2
  isplitl [HK1 HV1 HK2 HV2]
  · rcases (show yb c = 0 ∨ yb c = 1 by have := yb_lt c; omega) with e | e
    · simp only [src, e]
      rw [if_pos trivial, if_neg (by decide)]
      iframe HK1 HV1 HK2 HV2
    · simp only [src, e]
      rw [if_pos trivial, if_neg (by decide)]
      iframe HK1 HV1 HK2 HV2
  iframe HP HL HA HO HK0 HV0

theorem part_3 (K : GSem nD τ sig → ℕ) (c : Dev nD) (v5 : BitVec 32) (v8 : BitVec 32) (v9 : BitVec 32) (v47 : BitVec 32) (v48 : BitVec 32)  (Kt) :
    iprop((Mid m K c ![0, 0, 0, 0, 0, 0, 0, 0]) ∗ (∀ w0 : BitVec 32, ∀ w1 : BitVec 32, (Mid m K c ![1, 1, 0, 0, 0, 0, 0, 0]) -∗ Kt ⟨w0, w1⟩))
      ⊢ wp frame (wpE (defs₀ (F := F)) 𝒱₀ (c : Thread nD τ) none) Set.univ (k0_part3 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9 v47 v48) Kt := by
  rw [k0_part3_eq_skeleton]; unfold k0_part3_skel
  simp only [Prog.lift, Prog.bind_op, Prog.bind_ret, Prog.pure_eq_ret]
  iintro ⟨HM, Hk⟩
  iapply (send_k m K c _ ![0, 0, 0, 0, 0, 0, 0, 0] ![1, 0, 0, 0, 0, 0, 0, 0] 0 (Fin.ext ((k0_dev3_eq c).trans (dev_x c))) (yb c) rfl (k0_off2_eq c) (k0_off1_eq c) _ _ rfl rfl rfl rfl rfl (by decide))
  isplitl [HM]; · iexact HM
  iintro HM
  iapply (send_v m K c _ ![1, 0, 0, 0, 0, 0, 0, 0] ![1, 1, 0, 0, 0, 0, 0, 0] 1 (Fin.ext ((k0_dev4_eq c).trans (dev_x c))) (yb c) rfl (k0_off2_eq c) (k0_off1_eq c) _ _ rfl rfl rfl rfl rfl (by decide))
  isplitl [HM]; · iexact HM
  iintro HM
  rw [wp_ret]; imodintro
  iapply Hk
  iexact HM

theorem part_4 (K : GSem nD τ sig → ℕ) (c : Dev nD) (v5 : BitVec 32) (v8 : BitVec 32) (v9 : BitVec 32) (v77 : BitVec 32) (c1_i32_83 : BitVec 32)  (Kt) :
    iprop((Mid m K c ![1, 1, 0, 0, 0, 0, 0, 0]) ∗ ((Mid m K c ![1, 1, 1, 1, 0, 0, 0, 0]) -∗ Kt ⟨⟩))
      ⊢ wp frame (wpE (defs₀ (F := F)) 𝒱₀ (c : Thread nD τ) none) Set.univ (k0_part4 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9 v77 c1_i32_83) Kt := by
  rw [k0_part4_eq_skeleton]; unfold k0_part4_skel
  simp only [Prog.lift, Prog.bind_op, Prog.bind_ret, Prog.pure_eq_ret]
  iintro ⟨HM, Hk⟩
  iapply (send_k m K c _ ![1, 1, 0, 0, 0, 0, 0, 0] ![1, 1, 1, 0, 0, 0, 0, 0] 2 (Fin.ext ((k0_dev5_eq c).trans (dev_x c))) (yb c) rfl (k0_off4_eq c) (k0_off3_eq c) _ _ rfl rfl rfl rfl rfl (by decide))
  isplitl [HM]; · iexact HM
  iintro HM
  iapply (send_v m K c _ ![1, 1, 1, 0, 0, 0, 0, 0] ![1, 1, 1, 1, 0, 0, 0, 0] 3 (Fin.ext ((k0_dev6_eq c).trans (dev_x c))) (yb c) rfl (k0_off4_eq c) (k0_off3_eq c) _ _ rfl rfl rfl rfl rfl (by decide))
  isplitl [HM]; · iexact HM
  iintro HM
  rw [wp_ret]; imodintro
  iapply Hk
  iexact HM

theorem part_5 (K : GSem nD τ sig → ℕ) (c : Dev nD) (v5 : BitVec 32) (v8 : BitVec 32) (v9 : BitVec 32)  (Kt) :
    iprop((Mid m K c ![1, 1, 1, 1, 0, 0, 0, 0]) ∗ ((Mid m K c ![1, 1, 1, 1, 1, 1, 0, 0]) -∗ Kt ⟨⟩))
      ⊢ wp frame (wpE (defs₀ (F := F)) 𝒱₀ (c : Thread nD τ) none) Set.univ (k0_part5 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9) Kt := by
  rw [k0_part5_eq_skeleton]; unfold k0_part5_skel
  simp only [Prog.lift, Prog.bind_op, Prog.bind_ret, Prog.pure_eq_ret]
  iintro ⟨HM, Hk⟩
  iapply (send_k m K c _ ![1, 1, 1, 1, 0, 0, 0, 0] ![1, 1, 1, 1, 1, 0, 0, 0] 4 (Fin.ext ((k0_dev7_eq c).trans (dev_x c))) (yb c) rfl (k0_off6_eq c) (k0_off5_eq c) _ _ rfl rfl rfl rfl rfl (by decide))
  isplitl [HM]; · iexact HM
  iintro HM
  iapply (send_v m K c _ ![1, 1, 1, 1, 1, 0, 0, 0] ![1, 1, 1, 1, 1, 1, 0, 0] 5 (Fin.ext ((k0_dev8_eq c).trans (dev_x c))) (yb c) rfl (k0_off6_eq c) (k0_off5_eq c) _ _ rfl rfl rfl rfl rfl (by decide))
  isplitl [HM]; · iexact HM
  iintro HM
  rw [wp_ret]; imodintro
  iapply Hk
  iexact HM

theorem part_6 (K : GSem nD τ sig → ℕ) (c : Dev nD) (v5 : BitVec 32) (v8 : BitVec 32) (v9 : BitVec 32)  (Kt) :
    iprop((Mid m K c ![1, 1, 1, 1, 1, 1, 0, 0] ∗ StgI m c) ∗ ((Mid m K c ![1, 1, 1, 1, 1, 1, 1, 1] ∗ StgI m c) -∗ Kt ⟨k0_pay5 (qld m c 0 0), k0_pay6 (kld m c 0 0)⟩))
      ⊢ wp frame (wpE (defs₀ (F := F)) 𝒱₀ (c : Thread nD τ) none) Set.univ (k0_part6 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9) Kt := by
  rw [k0_part6_eq_skeleton]; unfold k0_part6_skel
  simp only [Prog.lift, Prog.bind_op, Prog.bind_ret, Prog.pure_eq_ret]
  iintro ⟨⟨HM, HS⟩, Hk⟩
  iapply (send_k m K c _ ![1, 1, 1, 1, 1, 1, 0, 0] ![1, 1, 1, 1, 1, 1, 1, 0] 6 (Fin.ext ((k0_dev9_eq c).trans (dev_x c))) (yb c) rfl (k0_off8_eq c) (k0_off7_eq c) _ _ rfl rfl rfl rfl rfl (by decide))
  isplitl [HM]; · iexact HM
  iintro HM
  iapply (send_v m K c _ ![1, 1, 1, 1, 1, 1, 1, 0] ![1, 1, 1, 1, 1, 1, 1, 1] 7 (Fin.ext ((k0_dev10_eq c).trans (dev_x c))) (yb c) rfl (k0_off8_eq c) (k0_off7_eq c) _ _ rfl rfl rfl rfl rfl (by decide))
  isplitl [HM]; · iexact HM
  iintro HM
  iapply (load_q m c 0 0 rfl)
  isplitl [HS]; · iexact HS
  iintro HS
  iapply (load_k m c 0 0 rfl)
  isplitl [HS]; · iexact HS
  iintro HS
  rw [wp_ret]; imodintro
  iapply Hk
  isplitl [HM]; · iexact HM
  iexact HS

theorem part_7 (c : Dev nD) (v5 : BitVec 32) (v8 : BitVec 32) (v9 : BitVec 32) (v161 : FVec F S64x512 .bf16) (v163 : FVec F S64x512 .bf16)  (Kt) :
    iprop((StgI m c) ∗ ((StgI m c) -∗ Kt ⟨k0_pay8 v161 v163, k0_pay9 v161 v163 (vld m c 0 0), k0_pay10 (qld m c 0 1), k0_pay12 (qld m c 0 1) (kld m c 0 1), k0_pay13 (qld m c 0 1) (kld m c 0 1) (vld m c 0 1)⟩))
      ⊢ wp frame (wpE (defs₀ (F := F)) 𝒱₀ (c : Thread nD τ) none) Set.univ (k0_part7 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v5 v8 v9 v161 v163) Kt := by
  rw [k0_part7_eq_skeleton]; unfold k0_part7_skel
  simp only [Prog.lift, Prog.bind_op, Prog.bind_ret, Prog.pure_eq_ret]
  iintro ⟨HS, Hk⟩
  iapply (load_v m c 0 0 rfl)
  isplitl [HS]; · iexact HS
  iintro HS
  iapply (load_q m c 0 1 rfl)
  isplitl [HS]; · iexact HS
  iintro HS
  iapply (load_k m c 0 1 rfl)
  isplitl [HS]; · iexact HS
  iintro HS
  iapply (load_v m c 0 1 rfl)
  isplitl [HS]; · iexact HS
  iintro HS
  rw [wp_ret]; imodintro
  iapply Hk
  iexact HS

theorem part_8 (K : GSem nD τ sig → ℕ) (c : Dev nD) (v2 : BitVec 32) (v8 : BitVec 32) (v10 : BitVec 32)  (Kt) :
    iprop((Mid m K c ![1, 1, 1, 1, 1, 1, 1, 1] ∗ StgI m c) ∗ ((Mid m K c ![3, 1, 1, 1, 1, 1, 1, 1] ∗ StgI m c) -∗ Kt ⟨k0_pay14 (qld m c 0 2), k0_pay15 (kld m c 0 2), k0_pay16 (vld m c 0 2), (constant S512x512 .f32 0x00000000#32)⟩))
      ⊢ wp frame (wpE (defs₀ (F := F)) 𝒱₀ (c : Thread nD τ) none) Set.univ (k0_part8 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part8_eq_skeleton]; unfold k0_part8_skel
  simp only [Prog.lift, Prog.bind_op, Prog.bind_ret, Prog.pure_eq_ret]
  iintro ⟨⟨HM, HS⟩, Hk⟩
  iapply (wait_rx m K c ![1, 1, 1, 1, 1, 1, 1, 1] ![2, 1, 1, 1, 1, 1, 1, 1] 0 _ rfl rfl rfl (by decide) (by decide) (src := kC (k0_off2 c) (k0_off2_inb c)) (dst := kC (k0_off1 c) (k0_off1_inb c)) rfl)
  isplitl [HM]; · iexact HM
  iintro HM
  iapply (fwd_k m K c _ ![2, 1, 1, 1, 1, 1, 1, 1] ![3, 1, 1, 1, 1, 1, 1, 1] 0 (Fin.ext ((k0_dev11_eq c).trans (dev_y c))) (yb c) rfl (k0_off1_eq c) (k0_off1_eq c) _ _ rfl rfl rfl rfl rfl (by decide))
  isplitl [HM]; · iexact HM
  iintro HM
  iapply (load_q m c 0 2 rfl)
  isplitl [HS]; · iexact HS
  iintro HS
  iapply (load_k m c 0 2 rfl)
  isplitl [HS]; · iexact HS
  iintro HS
  iapply (load_v m c 0 2 rfl)
  isplitl [HS]; · iexact HS
  iintro HS
  rw [wp_ret]; imodintro
  iapply Hk
  isplitl [HM]; · iexact HM
  iexact HS

theorem part_9 (c : Dev nD) (v5 : BitVec 32) (v8 : BitVec 32) (v9 : BitVec 32) (v215 : FVec F S64x512 .bf16) (v217 : FVec F S64x512 .bf16) (v219 : FVec F S64x512 .bf16) (cst_227 : FVec F S512x512 .f32)  (Kt) :
    iprop((StgI m c) ∗ ((StgI m c) -∗ Kt ⟨k0_pay18 v215 v217 cst_227, k0_pay19 v215 v217 v219 cst_227, k0_pay20 (qld m c 0 3), k0_pay22 (qld m c 0 3) (kld m c 0 3), k0_pay23 (qld m c 0 3) (kld m c 0 3) (vld m c 0 3)⟩))
      ⊢ wp frame (wpE (defs₀ (F := F)) 𝒱₀ (c : Thread nD τ) none) Set.univ (k0_part9 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9 v215 v217 v219 cst_227) Kt := by
  rw [k0_part9_eq_skeleton]; unfold k0_part9_skel
  simp only [Prog.lift, Prog.bind_op, Prog.bind_ret, Prog.pure_eq_ret]
  iintro ⟨HS, Hk⟩
  iapply (load_q m c 0 3 rfl)
  isplitl [HS]; · iexact HS
  iintro HS
  iapply (load_k m c 0 3 rfl)
  isplitl [HS]; · iexact HS
  iintro HS
  iapply (load_v m c 0 3 rfl)
  isplitl [HS]; · iexact HS
  iintro HS
  rw [wp_ret]; imodintro
  iapply Hk
  iexact HS

theorem part_10 (K : GSem nD τ sig → ℕ) (c : Dev nD) (v2 : BitVec 32) (v8 : BitVec 32) (v10 : BitVec 32)  (Kt) :
    iprop((Mid m K c ![3, 1, 1, 1, 1, 1, 1, 1] ∗ StgI m c) ∗ ((Mid m K c ![3, 3, 1, 1, 1, 1, 1, 1] ∗ StgI m c) -∗ Kt ⟨k0_pay24 (qld m c 0 4), k0_pay25 (vld m c 0 4), k0_pay26 (qld m c 0 4) (kld m c 0 4), k0_pay27 (qld m c 0 4) (kld m c 0 4)⟩))
      ⊢ wp frame (wpE (defs₀ (F := F)) 𝒱₀ (c : Thread nD τ) none) Set.univ (k0_part10 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part10_eq_skeleton]; unfold k0_part10_skel
  simp only [Prog.lift, Prog.bind_op, Prog.bind_ret, Prog.pure_eq_ret]
  iintro ⟨⟨HM, HS⟩, Hk⟩
  iapply (wait_rx m K c ![3, 1, 1, 1, 1, 1, 1, 1] ![3, 2, 1, 1, 1, 1, 1, 1] 1 _ rfl rfl rfl (by decide) (by decide) (src := vC (k0_off2 c) (k0_off2_inb c)) (dst := vC (k0_off1 c) (k0_off1_inb c)) rfl)
  isplitl [HM]; · iexact HM
  iintro HM
  iapply (fwd_v m K c _ ![3, 2, 1, 1, 1, 1, 1, 1] ![3, 3, 1, 1, 1, 1, 1, 1] 1 (Fin.ext ((k0_dev12_eq c).trans (dev_y c))) (yb c) rfl (k0_off1_eq c) (k0_off1_eq c) _ _ rfl rfl rfl rfl rfl (by decide))
  isplitl [HM]; · iexact HM
  iintro HM
  iapply (load_q m c 0 4 rfl)
  isplitl [HS]; · iexact HS
  iintro HS
  iapply (load_k m c 0 4 rfl)
  isplitl [HS]; · iexact HS
  iintro HS
  iapply (load_v m c 0 4 rfl)
  isplitl [HS]; · iexact HS
  iintro HS
  rw [wp_ret]; imodintro
  iapply Hk
  isplitl [HM]; · iexact HM
  iexact HS

theorem part_11 (c : Dev nD) (v5 : BitVec 32) (v8 : BitVec 32) (v9 : BitVec 32) (v273 : FVec F S64x512 .bf16) (v275 : FVec F S512x512 .f32) (v276 : FVec F S512 .f32)  (Kt) :
    iprop((StgI m c) ∗ ((StgI m c) -∗ Kt ⟨k0_pay28 v276, k0_pay29 v273 v275, k0_pay30 (qld m c 0 5), k0_pay32 (qld m c 0 5) (kld m c 0 5), k0_pay33 (qld m c 0 5) (kld m c 0 5) (vld m c 0 5)⟩))
      ⊢ wp frame (wpE (defs₀ (F := F)) 𝒱₀ (c : Thread nD τ) none) Set.univ (k0_part11 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9 v273 v275 v276) Kt := by
  rw [k0_part11_eq_skeleton]; unfold k0_part11_skel
  simp only [Prog.lift, Prog.bind_op, Prog.bind_ret, Prog.pure_eq_ret]
  iintro ⟨HS, Hk⟩
  iapply (load_q m c 0 5 rfl)
  isplitl [HS]; · iexact HS
  iintro HS
  iapply (load_k m c 0 5 rfl)
  isplitl [HS]; · iexact HS
  iintro HS
  iapply (load_v m c 0 5 rfl)
  isplitl [HS]; · iexact HS
  iintro HS
  rw [wp_ret]; imodintro
  iapply Hk
  iexact HS

theorem part_12 (K : GSem nD τ sig → ℕ) (c : Dev nD) (v2 : BitVec 32) (v8 : BitVec 32) (v10 : BitVec 32)  (Kt) :
    iprop((Mid m K c ![3, 3, 1, 1, 1, 1, 1, 1] ∗ StgI m c) ∗ ((Mid m K c ![3, 3, 3, 1, 1, 1, 1, 1] ∗ StgI m c) -∗ Kt ⟨k0_pay34 (qld m c 0 6), k0_pay36 (qld m c 0 6) (kld m c 0 6), k0_pay37 (qld m c 0 6) (kld m c 0 6) (vld m c 0 6)⟩))
      ⊢ wp frame (wpE (defs₀ (F := F)) 𝒱₀ (c : Thread nD τ) none) Set.univ (k0_part12 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part12_eq_skeleton]; unfold k0_part12_skel
  simp only [Prog.lift, Prog.bind_op, Prog.bind_ret, Prog.pure_eq_ret]
  iintro ⟨⟨HM, HS⟩, Hk⟩
  iapply (wait_rx m K c ![3, 3, 1, 1, 1, 1, 1, 1] ![3, 3, 2, 1, 1, 1, 1, 1] 2 _ rfl rfl rfl (by decide) (by decide) (src := kC (k0_off4 c) (k0_off4_inb c)) (dst := kC (k0_off3 c) (k0_off3_inb c)) rfl)
  isplitl [HM]; · iexact HM
  iintro HM
  iapply (fwd_k m K c _ ![3, 3, 2, 1, 1, 1, 1, 1] ![3, 3, 3, 1, 1, 1, 1, 1] 2 (Fin.ext ((k0_dev13_eq c).trans (dev_y c))) (yb c) rfl (k0_off3_eq c) (k0_off3_eq c) _ _ rfl rfl rfl rfl rfl (by decide))
  isplitl [HM]; · iexact HM
  iintro HM
  iapply (load_q m c 0 6 rfl)
  isplitl [HS]; · iexact HS
  iintro HS
  iapply (load_k m c 0 6 rfl)
  isplitl [HS]; · iexact HS
  iintro HS
  iapply (load_v m c 0 6 rfl)
  isplitl [HS]; · iexact HS
  iintro HS
  rw [wp_ret]; imodintro
  iapply Hk
  isplitl [HM]; · iexact HM
  iexact HS

theorem part_13 (K : GSem nD τ sig → ℕ) (c : Dev nD) (v5 : BitVec 32) (v8 : BitVec 32) (v9 : BitVec 32)  (Kt) :
    iprop((Mid m K c ![3, 3, 3, 1, 1, 1, 1, 1] ∗ StgI m c) ∗ ((Mid m K c ![3, 3, 3, 2, 1, 1, 1, 1] ∗ StgI m c) -∗ Kt ⟨k0_pay38 (qld m c 0 7), k0_pay40 (qld m c 0 7) (kld m c 0 7), k0_pay41 (qld m c 0 7) (kld m c 0 7) (vld m c 0 7)⟩))
      ⊢ wp frame (wpE (defs₀ (F := F)) 𝒱₀ (c : Thread nD τ) none) Set.univ (k0_part13 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v5 v8 v9) Kt := by
  rw [k0_part13_eq_skeleton]; unfold k0_part13_skel
  simp only [Prog.lift, Prog.bind_op, Prog.bind_ret, Prog.pure_eq_ret]
  iintro ⟨⟨HM, HS⟩, Hk⟩
  iapply (load_q m c 0 7 rfl)
  isplitl [HS]; · iexact HS
  iintro HS
  iapply (load_k m c 0 7 rfl)
  isplitl [HS]; · iexact HS
  iintro HS
  iapply (load_v m c 0 7 rfl)
  isplitl [HS]; · iexact HS
  iintro HS
  iapply (wait_rx m K c ![3, 3, 3, 1, 1, 1, 1, 1] ![3, 3, 3, 2, 1, 1, 1, 1] 3 _ rfl rfl rfl (by decide) (by decide) (src := vC (k0_off4 c) (k0_off4_inb c)) (dst := vC (k0_off3 c) (k0_off3_inb c)) rfl)
  isplitl [HM]; · iexact HM
  iintro HM
  rw [wp_ret]; imodintro
  iapply Hk
  isplitl [HM]; · iexact HM
  iexact HS

theorem part_14 (K : GSem nD τ sig → ℕ) (c : Dev nD) (v2 : BitVec 32) (v8 : BitVec 32) (v10 : BitVec 32)  (Kt) :
    iprop((Mid m K c ![3, 3, 3, 2, 1, 1, 1, 1] ∗ StgI m c) ∗ ((Mid m K c ![3, 3, 3, 3, 1, 1, 1, 1] ∗ StgI m c) -∗ Kt ⟨k0_pay42 (qld m c 1 0), k0_pay44 (qld m c 1 0) (kld m c 1 0), k0_pay45 (qld m c 1 0) (kld m c 1 0) (vld m c 1 0)⟩))
      ⊢ wp frame (wpE (defs₀ (F := F)) 𝒱₀ (c : Thread nD τ) none) Set.univ (k0_part14 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part14_eq_skeleton]; unfold k0_part14_skel
  simp only [Prog.lift, Prog.bind_op, Prog.bind_ret, Prog.pure_eq_ret]
  iintro ⟨⟨HM, HS⟩, Hk⟩
  iapply (fwd_v m K c _ ![3, 3, 3, 2, 1, 1, 1, 1] ![3, 3, 3, 3, 1, 1, 1, 1] 3 (Fin.ext ((k0_dev14_eq c).trans (dev_y c))) (yb c) rfl (k0_off3_eq c) (k0_off3_eq c) _ _ rfl rfl rfl rfl rfl (by decide))
  isplitl [HM]; · iexact HM
  iintro HM
  iapply (load_q m c 1 0 rfl)
  isplitl [HS]; · iexact HS
  iintro HS
  iapply (load_k m c 1 0 rfl)
  isplitl [HS]; · iexact HS
  iintro HS
  iapply (load_v m c 1 0 rfl)
  isplitl [HS]; · iexact HS
  iintro HS
  rw [wp_ret]; imodintro
  iapply Hk
  isplitl [HM]; · iexact HM
  iexact HS

theorem part_15 (K : GSem nD τ sig → ℕ) (c : Dev nD) (v2 : BitVec 32) (v5 : BitVec 32) (v8 : BitVec 32) (v9 : BitVec 32)  (Kt) :
    iprop((Mid m K c ![3, 3, 3, 3, 1, 1, 1, 1] ∗ StgI m c) ∗ (∀ w3 : BitVec 32, ∀ w4 : BitVec 32, (Mid m K c ![3, 3, 3, 3, 2, 1, 1, 1] ∗ StgI m c) -∗ Kt ⟨k0_pay46 (qld m c 1 1), k0_pay48 (qld m c 1 1) (kld m c 1 1), k0_pay49 (qld m c 1 1) (kld m c 1 1) (vld m c 1 1), w3, w4⟩))
      ⊢ wp frame (wpE (defs₀ (F := F)) 𝒱₀ (c : Thread nD τ) none) Set.univ (k0_part15 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v5 v8 v9) Kt := by
  rw [k0_part15_eq_skeleton]; unfold k0_part15_skel
  simp only [Prog.lift, Prog.bind_op, Prog.bind_ret, Prog.pure_eq_ret]
  iintro ⟨⟨HM, HS⟩, Hk⟩
  iapply (load_q m c 1 1 rfl)
  isplitl [HS]; · iexact HS
  iintro HS
  iapply (load_k m c 1 1 rfl)
  isplitl [HS]; · iexact HS
  iintro HS
  iapply (load_v m c 1 1 rfl)
  isplitl [HS]; · iexact HS
  iintro HS
  iapply (wait_rx m K c ![3, 3, 3, 3, 1, 1, 1, 1] ![3, 3, 3, 3, 2, 1, 1, 1] 4 _ rfl rfl rfl (by decide) (by decide) (src := kC (k0_off6 c) (k0_off6_inb c)) (dst := kC (k0_off5 c) (k0_off5_inb c)) rfl)
  isplitl [HM]; · iexact HM
  iintro HM
  rw [wp_ret]; imodintro
  iapply Hk
  isplitl [HM]; · iexact HM
  iexact HS

theorem part_16 (K : GSem nD τ sig → ℕ) (c : Dev nD) (v8 : BitVec 32) (v10 : BitVec 32) (v414 : BitVec 32) (c0_i32_440 : BitVec 32)  (Kt) :
    iprop((Mid m K c ![3, 3, 3, 3, 2, 1, 1, 1] ∗ StgI m c) ∗ ((Mid m K c ![3, 3, 3, 3, 3, 1, 1, 1] ∗ StgI m c) -∗ Kt ⟨k0_pay50 (qld m c 1 2), k0_pay52 (qld m c 1 2) (kld m c 1 2), k0_pay53 (qld m c 1 2) (kld m c 1 2) (vld m c 1 2), k0_pay54 (qld m c 1 3), k0_pay55 (F := F)⟩))
      ⊢ wp frame (wpE (defs₀ (F := F)) 𝒱₀ (c : Thread nD τ) none) Set.univ (k0_part16 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v8 v10 v414 c0_i32_440) Kt := by
  rw [k0_part16_eq_skeleton]; unfold k0_part16_skel
  simp only [Prog.lift, Prog.bind_op, Prog.bind_ret, Prog.pure_eq_ret]
  iintro ⟨⟨HM, HS⟩, Hk⟩
  iapply (fwd_k m K c _ ![3, 3, 3, 3, 2, 1, 1, 1] ![3, 3, 3, 3, 3, 1, 1, 1] 4 (Fin.ext ((k0_dev15_eq c).trans (dev_y c))) (yb c) rfl (k0_off5_eq c) (k0_off5_eq c) _ _ rfl rfl rfl rfl rfl (by decide))
  isplitl [HM]; · iexact HM
  iintro HM
  iapply (load_q m c 1 2 rfl)
  isplitl [HS]; · iexact HS
  iintro HS
  iapply (load_k m c 1 2 rfl)
  isplitl [HS]; · iexact HS
  iintro HS
  iapply (load_v m c 1 2 rfl)
  isplitl [HS]; · iexact HS
  iintro HS
  iapply (load_q m c 1 3 rfl)
  isplitl [HS]; · iexact HS
  iintro HS
  rw [wp_ret]; imodintro
  iapply Hk
  isplitl [HM]; · iexact HM
  iexact HS

theorem part_17 (K : GSem nD τ sig → ℕ) (c : Dev nD) (v2 : BitVec 32) (v5 : BitVec 32) (v8 : BitVec 32) (v9 : BitVec 32) (v10 : BitVec 32) (v443 : FVec F S64x512 .bf16) (v444 : FVec F S64x512 .bf16)  (Kt) :
    iprop((Mid m K c ![3, 3, 3, 3, 3, 1, 1, 1] ∗ StgI m c) ∗ (∀ w3 : BitVec 32, (Mid m K c ![3, 3, 3, 3, 3, 2, 1, 1] ∗ StgI m c) -∗ Kt ⟨k0_pay56 v443 v444, k0_pay58 v443 v444 (kld m c 1 3), k0_pay59 v443 v444 (kld m c 1 3) (vld m c 1 3), w3⟩))
      ⊢ wp frame (wpE (defs₀ (F := F)) 𝒱₀ (c : Thread nD τ) none) Set.univ (k0_part17 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v5 v8 v9 v10 v443 v444) Kt := by
  rw [k0_part17_eq_skeleton]; unfold k0_part17_skel
  simp only [Prog.lift, Prog.bind_op, Prog.bind_ret, Prog.pure_eq_ret]
  iintro ⟨⟨HM, HS⟩, Hk⟩
  iapply (load_k m c 1 3 rfl)
  isplitl [HS]; · iexact HS
  iintro HS
  iapply (load_v m c 1 3 rfl)
  isplitl [HS]; · iexact HS
  iintro HS
  iapply (wait_rx m K c ![3, 3, 3, 3, 3, 1, 1, 1] ![3, 3, 3, 3, 3, 2, 1, 1] 5 _ rfl rfl rfl (by decide) (by decide) (src := vC (k0_off6 c) (k0_off6_inb c)) (dst := vC (k0_off5 c) (k0_off5_inb c)) rfl)
  isplitl [HM]; · iexact HM
  iintro HM
  rw [wp_ret]; imodintro
  iapply Hk
  isplitl [HM]; · iexact HM
  iexact HS

theorem part_18 (K : GSem nD τ sig → ℕ) (c : Dev nD) (v8 : BitVec 32) (v471 : BitVec 32)  (Kt) :
    iprop((Mid m K c ![3, 3, 3, 3, 3, 2, 1, 1] ∗ StgI m c) ∗ ((Mid m K c ![3, 3, 3, 3, 3, 3, 1, 1] ∗ StgI m c) -∗ Kt ⟨k0_pay60 (qld m c 1 4), k0_pay62 (qld m c 1 4) (kld m c 1 4), k0_pay63 (qld m c 1 4) (kld m c 1 4) (vld m c 1 4), k0_pay64 (qld m c 1 5)⟩))
      ⊢ wp frame (wpE (defs₀ (F := F)) 𝒱₀ (c : Thread nD τ) none) Set.univ (k0_part18 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v8 v471) Kt := by
  rw [k0_part18_eq_skeleton]; unfold k0_part18_skel
  simp only [Prog.lift, Prog.bind_op, Prog.bind_ret, Prog.pure_eq_ret]
  iintro ⟨⟨HM, HS⟩, Hk⟩
  iapply (fwd_v m K c _ ![3, 3, 3, 3, 3, 2, 1, 1] ![3, 3, 3, 3, 3, 3, 1, 1] 5 (Fin.ext ((k0_dev16_eq c).trans (dev_y c))) (yb c) rfl (k0_off5_eq c) (k0_off5_eq c) _ _ rfl rfl rfl rfl rfl (by decide))
  isplitl [HM]; · iexact HM
  iintro HM
  iapply (load_q m c 1 4 rfl)
  isplitl [HS]; · iexact HS
  iintro HS
  iapply (load_k m c 1 4 rfl)
  isplitl [HS]; · iexact HS
  iintro HS
  iapply (load_v m c 1 4 rfl)
  isplitl [HS]; · iexact HS
  iintro HS
  iapply (load_q m c 1 5 rfl)
  isplitl [HS]; · iexact HS
  iintro HS
  rw [wp_ret]; imodintro
  iapply Hk
  isplitl [HM]; · iexact HM
  iexact HS

theorem part_19 (K : GSem nD τ sig → ℕ) (c : Dev nD) (v2 : BitVec 32) (v5 : BitVec 32) (v8 : BitVec 32) (v9 : BitVec 32) (v10 : BitVec 32) (v499 : FVec F S64x512 .bf16)  (Kt) :
    iprop((Mid m K c ![3, 3, 3, 3, 3, 3, 1, 1] ∗ StgI m c) ∗ ((Mid m K c ![3, 3, 3, 3, 3, 3, 2, 1] ∗ StgI m c) -∗ Kt ⟨k0_pay66 v499 (kld m c 1 5), k0_pay67 v499 (kld m c 1 5) (vld m c 1 5)⟩))
      ⊢ wp frame (wpE (defs₀ (F := F)) 𝒱₀ (c : Thread nD τ) none) Set.univ (k0_part19 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v5 v8 v9 v10 v499) Kt := by
  rw [k0_part19_eq_skeleton]; unfold k0_part19_skel
  simp only [Prog.lift, Prog.bind_op, Prog.bind_ret, Prog.pure_eq_ret]
  iintro ⟨⟨HM, HS⟩, Hk⟩
  iapply (load_k m c 1 5 rfl)
  isplitl [HS]; · iexact HS
  iintro HS
  iapply (load_v m c 1 5 rfl)
  isplitl [HS]; · iexact HS
  iintro HS
  iapply (wait_rx m K c ![3, 3, 3, 3, 3, 3, 1, 1] ![3, 3, 3, 3, 3, 3, 2, 1] 6 _ rfl rfl rfl (by decide) (by decide) (src := kC (k0_off8 c) (k0_off8_inb c)) (dst := kC (k0_off7 c) (k0_off7_inb c)) rfl)
  isplitl [HM]; · iexact HM
  iintro HM
  rw [wp_ret]; imodintro
  iapply Hk
  isplitl [HM]; · iexact HM
  iexact HS

theorem part_20 (K : GSem nD τ sig → ℕ) (c : Dev nD)   (Kt) :
    iprop((Mid m K c ![3, 3, 3, 3, 3, 3, 2, 1] ∗ StgI m c) ∗ ((Mid m K c ![3, 3, 3, 3, 3, 3, 3, 1] ∗ StgI m c) -∗ Kt ⟨k0_pay68 (qld m c 1 6), k0_pay70 (qld m c 1 6) (kld m c 1 6), k0_pay71 (qld m c 1 6) (kld m c 1 6) (vld m c 1 6), k0_pay72 (qld m c 1 7), k0_pay73 (kld m c 1 7)⟩))
      ⊢ wp frame (wpE (defs₀ (F := F)) 𝒱₀ (c : Thread nD τ) none) Set.univ (k0_part20 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c) Kt := by
  rw [k0_part20_eq_skeleton]; unfold k0_part20_skel
  simp only [Prog.lift, Prog.bind_op, Prog.bind_ret, Prog.pure_eq_ret]
  iintro ⟨⟨HM, HS⟩, Hk⟩
  iapply (fwd_k m K c _ ![3, 3, 3, 3, 3, 3, 2, 1] ![3, 3, 3, 3, 3, 3, 3, 1] 6 (Fin.ext ((k0_dev17_eq c).trans (dev_y c))) (yb c) rfl (k0_off7_eq c) (k0_off7_eq c) _ _ rfl rfl rfl rfl rfl (by decide))
  isplitl [HM]; · iexact HM
  iintro HM
  iapply (load_q m c 1 6 rfl)
  isplitl [HS]; · iexact HS
  iintro HS
  iapply (load_k m c 1 6 rfl)
  isplitl [HS]; · iexact HS
  iintro HS
  iapply (load_v m c 1 6 rfl)
  isplitl [HS]; · iexact HS
  iintro HS
  iapply (load_q m c 1 7 rfl)
  isplitl [HS]; · iexact HS
  iintro HS
  iapply (load_k m c 1 7 rfl)
  isplitl [HS]; · iexact HS
  iintro HS
  rw [wp_ret]; imodintro
  iapply Hk
  isplitl [HM]; · iexact HM
  iexact HS

theorem part_21 (K : GSem nD τ sig → ℕ) (c : Dev nD) (v2 : BitVec 32) (v5 : BitVec 32) (v8 : BitVec 32) (v9 : BitVec 32) (v10 : BitVec 32) (v553 : FVec F S64x512 .bf16) (v555 : FVec F S64x512 .bf16)  (Kt) :
    iprop((Mid m K c ![3, 3, 3, 3, 3, 3, 3, 1] ∗ StgI m c) ∗ ((Mid m K c ![3, 3, 3, 3, 3, 3, 3, 2] ∗ StgI m c) -∗ Kt ⟨k0_pay75 v553 v555, k0_pay76 v553 v555 (vld m c 1 7)⟩))
      ⊢ wp frame (wpE (defs₀ (F := F)) 𝒱₀ (c : Thread nD τ) none) Set.univ (k0_part21 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v5 v8 v9 v10 v553 v555) Kt := by
  rw [k0_part21_eq_skeleton]; unfold k0_part21_skel
  simp only [Prog.lift, Prog.bind_op, Prog.bind_ret, Prog.pure_eq_ret]
  iintro ⟨⟨HM, HS⟩, Hk⟩
  iapply (load_v m c 1 7 rfl)
  isplitl [HS]; · iexact HS
  iintro HS
  iapply (wait_rx m K c ![3, 3, 3, 3, 3, 3, 3, 1] ![3, 3, 3, 3, 3, 3, 3, 2] 7 _ rfl rfl rfl (by decide) (by decide) (src := vC (k0_off8 c) (k0_off8_inb c)) (dst := vC (k0_off7 c) (k0_off7_inb c)) rfl)
  isplitl [HM]; · iexact HM
  iintro HM
  rw [wp_ret]; imodintro
  iapply Hk
  isplitl [HM]; · iexact HM
  iexact HS

theorem part_22 (K : GSem nD τ sig → ℕ) (c : Dev nD) (v2 : BitVec 32) (v8 : BitVec 32) (v10 : BitVec 32)  (Kt) :
    iprop((Mid m K c ![3, 3, 3, 3, 3, 3, 3, 2]) ∗ ((Mid m K c ![5, 3, 3, 3, 3, 3, 3, 3]) -∗ Kt ⟨⟩))
      ⊢ wp frame (wpE (defs₀ (F := F)) 𝒱₀ (c : Thread nD τ) none) Set.univ (k0_part22 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part22_eq_skeleton]; unfold k0_part22_skel
  simp only [Prog.lift, Prog.bind_op, Prog.bind_ret, Prog.pure_eq_ret]
  iintro ⟨HM, Hk⟩
  iapply (fwd_v m K c _ ![3, 3, 3, 3, 3, 3, 3, 2] ![3, 3, 3, 3, 3, 3, 3, 3] 7 (Fin.ext ((k0_dev18_eq c).trans (dev_y c))) (yb c) rfl (k0_off7_eq c) (k0_off7_eq c) _ _ rfl rfl rfl rfl rfl (by decide))
  isplitl [HM]; · iexact HM
  iintro HM
  iapply (wait_sx m K c ![3, 3, 3, 3, 3, 3, 3, 3] ![4, 3, 3, 3, 3, 3, 3, 3] 0 _ rfl rfl rfl (by decide) (by decide) (src := kC (k0_off1 c) (k0_off1_inb c)) (dst := kC (k0_off2 c) (k0_off2_inb c)) rfl)
  isplitl [HM]; · iexact HM
  iintro HM
  iapply (wait_sf m K c ![4, 3, 3, 3, 3, 3, 3, 3] ![5, 3, 3, 3, 3, 3, 3, 3] 0 _ rfl rfl rfl (by decide) (by decide) (src := kC (k0_off1 c) (k0_off1_inb c)) (dst := kC (k0_off1 c) (k0_off1_inb c)) rfl)
  isplitl [HM]; · iexact HM
  iintro HM
  rw [wp_ret]; imodintro
  iapply Hk
  iexact HM

theorem part_23 (K : GSem nD τ sig → ℕ) (c : Dev nD) (v2 : BitVec 32) (v10 : BitVec 32)  (Kt) :
    iprop((Mid m K c ![5, 3, 3, 3, 3, 3, 3, 3]) ∗ (∀ w0 : BitVec 32, (Mid m K c ![6, 5, 3, 3, 3, 3, 3, 3]) -∗ Kt w0))
      ⊢ wp frame (wpE (defs₀ (F := F)) 𝒱₀ (c : Thread nD τ) none) Set.univ (k0_part23 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v10) Kt := by
  rw [k0_part23_eq_skeleton]; unfold k0_part23_skel
  simp only [Prog.lift, Prog.bind_op, Prog.bind_ret, Prog.pure_eq_ret]
  iintro ⟨HM, Hk⟩
  iapply (wait_rf m K c ![5, 3, 3, 3, 3, 3, 3, 3] ![6, 3, 3, 3, 3, 3, 3, 3] 0 _ rfl rfl rfl (by decide) (by decide) (src := kC (k0_off1 c) (k0_off1_inb c)) (dst := kC (k0_off1 c) (k0_off1_inb c)) rfl)
  isplitl [HM]; · iexact HM
  iintro HM
  iapply (wait_sx m K c ![6, 3, 3, 3, 3, 3, 3, 3] ![6, 4, 3, 3, 3, 3, 3, 3] 1 _ rfl rfl rfl (by decide) (by decide) (src := vC (k0_off1 c) (k0_off1_inb c)) (dst := vC (k0_off2 c) (k0_off2_inb c)) rfl)
  isplitl [HM]; · iexact HM
  iintro HM
  iapply (wait_sf m K c ![6, 4, 3, 3, 3, 3, 3, 3] ![6, 5, 3, 3, 3, 3, 3, 3] 1 _ rfl rfl rfl (by decide) (by decide) (src := vC (k0_off1 c) (k0_off1_inb c)) (dst := vC (k0_off1 c) (k0_off1_inb c)) rfl)
  isplitl [HM]; · iexact HM
  iintro HM
  rw [wp_ret]; imodintro
  iapply Hk
  iexact HM

theorem part_24 (K : GSem nD τ sig → ℕ) (c : Dev nD) (v2 : BitVec 32) (v8 : BitVec 32) (v629 : BitVec 32)  (Kt) :
    iprop((Mid m K c ![6, 5, 3, 3, 3, 3, 3, 3]) ∗ (∀ w0 : BitVec 32, (Mid m K c ![6, 6, 5, 3, 3, 3, 3, 3]) -∗ Kt w0))
      ⊢ wp frame (wpE (defs₀ (F := F)) 𝒱₀ (c : Thread nD τ) none) Set.univ (k0_part24 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v629) Kt := by
  rw [k0_part24_eq_skeleton]; unfold k0_part24_skel
  simp only [Prog.lift, Prog.bind_op, Prog.bind_ret, Prog.pure_eq_ret]
  iintro ⟨HM, Hk⟩
  iapply (wait_rf m K c ![6, 5, 3, 3, 3, 3, 3, 3] ![6, 6, 3, 3, 3, 3, 3, 3] 1 _ rfl rfl rfl (by decide) (by decide) (src := vC (k0_off1 c) (k0_off1_inb c)) (dst := vC (k0_off1 c) (k0_off1_inb c)) rfl)
  isplitl [HM]; · iexact HM
  iintro HM
  iapply (wait_sx m K c ![6, 6, 3, 3, 3, 3, 3, 3] ![6, 6, 4, 3, 3, 3, 3, 3] 2 _ rfl rfl rfl (by decide) (by decide) (src := kC (k0_off3 c) (k0_off3_inb c)) (dst := kC (k0_off4 c) (k0_off4_inb c)) rfl)
  isplitl [HM]; · iexact HM
  iintro HM
  iapply (wait_sf m K c ![6, 6, 4, 3, 3, 3, 3, 3] ![6, 6, 5, 3, 3, 3, 3, 3] 2 _ rfl rfl rfl (by decide) (by decide) (src := kC (k0_off3 c) (k0_off3_inb c)) (dst := kC (k0_off3 c) (k0_off3_inb c)) rfl)
  isplitl [HM]; · iexact HM
  iintro HM
  rw [wp_ret]; imodintro
  iapply Hk
  iexact HM

theorem part_25 (K : GSem nD τ sig → ℕ) (c : Dev nD) (v8 : BitVec 32) (v10 : BitVec 32) (v651 : BitVec 32)  (Kt) :
    iprop((Mid m K c ![6, 6, 5, 3, 3, 3, 3, 3]) ∗ (∀ w0 : BitVec 32, (Mid m K c ![6, 6, 6, 5, 3, 3, 3, 3]) -∗ Kt w0))
      ⊢ wp frame (wpE (defs₀ (F := F)) 𝒱₀ (c : Thread nD τ) none) Set.univ (k0_part25 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v8 v10 v651) Kt := by
  rw [k0_part25_eq_skeleton]; unfold k0_part25_skel
  simp only [Prog.lift, Prog.bind_op, Prog.bind_ret, Prog.pure_eq_ret]
  iintro ⟨HM, Hk⟩
  iapply (wait_rf m K c ![6, 6, 5, 3, 3, 3, 3, 3] ![6, 6, 6, 3, 3, 3, 3, 3] 2 _ rfl rfl rfl (by decide) (by decide) (src := kC (k0_off3 c) (k0_off3_inb c)) (dst := kC (k0_off3 c) (k0_off3_inb c)) rfl)
  isplitl [HM]; · iexact HM
  iintro HM
  iapply (wait_sx m K c ![6, 6, 6, 3, 3, 3, 3, 3] ![6, 6, 6, 4, 3, 3, 3, 3] 3 _ rfl rfl rfl (by decide) (by decide) (src := vC (k0_off3 c) (k0_off3_inb c)) (dst := vC (k0_off4 c) (k0_off4_inb c)) rfl)
  isplitl [HM]; · iexact HM
  iintro HM
  iapply (wait_sf m K c ![6, 6, 6, 4, 3, 3, 3, 3] ![6, 6, 6, 5, 3, 3, 3, 3] 3 _ rfl rfl rfl (by decide) (by decide) (src := vC (k0_off3 c) (k0_off3_inb c)) (dst := vC (k0_off3 c) (k0_off3_inb c)) rfl)
  isplitl [HM]; · iexact HM
  iintro HM
  rw [wp_ret]; imodintro
  iapply Hk
  iexact HM

theorem part_26 (K : GSem nD τ sig → ℕ) (c : Dev nD) (v2 : BitVec 32) (v8 : BitVec 32) (v10 : BitVec 32) (c8_i32_763 : BitVec 32)  (Kt) :
    iprop((Mid m K c ![6, 6, 6, 5, 3, 3, 3, 3]) ∗ ((Mid m K c ![6, 6, 6, 6, 5, 3, 3, 3]) -∗ Kt ⟨⟩))
      ⊢ wp frame (wpE (defs₀ (F := F)) 𝒱₀ (c : Thread nD τ) none) Set.univ (k0_part26 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10 c8_i32_763) Kt := by
  rw [k0_part26_eq_skeleton]; unfold k0_part26_skel
  simp only [Prog.lift, Prog.bind_op, Prog.bind_ret, Prog.pure_eq_ret]
  iintro ⟨HM, Hk⟩
  iapply (wait_rf m K c ![6, 6, 6, 5, 3, 3, 3, 3] ![6, 6, 6, 6, 3, 3, 3, 3] 3 _ rfl rfl rfl (by decide) (by decide) (src := vC (k0_off3 c) (k0_off3_inb c)) (dst := vC (k0_off3 c) (k0_off3_inb c)) rfl)
  isplitl [HM]; · iexact HM
  iintro HM
  iapply (wait_sx m K c ![6, 6, 6, 6, 3, 3, 3, 3] ![6, 6, 6, 6, 4, 3, 3, 3] 4 _ rfl rfl rfl (by decide) (by decide) (src := kC (k0_off5 c) (k0_off5_inb c)) (dst := kC (k0_off6 c) (k0_off6_inb c)) rfl)
  isplitl [HM]; · iexact HM
  iintro HM
  iapply (wait_sf m K c ![6, 6, 6, 6, 4, 3, 3, 3] ![6, 6, 6, 6, 5, 3, 3, 3] 4 _ rfl rfl rfl (by decide) (by decide) (src := kC (k0_off5 c) (k0_off5_inb c)) (dst := kC (k0_off5 c) (k0_off5_inb c)) rfl)
  isplitl [HM]; · iexact HM
  iintro HM
  rw [wp_ret]; imodintro
  iapply Hk
  iexact HM

theorem part_27 (K : GSem nD τ sig → ℕ) (c : Dev nD) (v2 : BitVec 32) (v8 : BitVec 32) (v10 : BitVec 32)  (Kt) :
    iprop((Mid m K c ![6, 6, 6, 6, 5, 3, 3, 3]) ∗ ((Mid m K c ![6, 6, 6, 6, 6, 4, 3, 3]) -∗ Kt ⟨⟩))
      ⊢ wp frame (wpE (defs₀ (F := F)) 𝒱₀ (c : Thread nD τ) none) Set.univ (k0_part27 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part27_eq_skeleton]; unfold k0_part27_skel
  simp only [Prog.lift, Prog.bind_op, Prog.bind_ret, Prog.pure_eq_ret]
  iintro ⟨HM, Hk⟩
  iapply (wait_rf m K c ![6, 6, 6, 6, 5, 3, 3, 3] ![6, 6, 6, 6, 6, 3, 3, 3] 4 _ rfl rfl rfl (by decide) (by decide) (src := kC (k0_off5 c) (k0_off5_inb c)) (dst := kC (k0_off5 c) (k0_off5_inb c)) rfl)
  isplitl [HM]; · iexact HM
  iintro HM
  iapply (wait_sx m K c ![6, 6, 6, 6, 6, 3, 3, 3] ![6, 6, 6, 6, 6, 4, 3, 3] 5 _ rfl rfl rfl (by decide) (by decide) (src := vC (k0_off5 c) (k0_off5_inb c)) (dst := vC (k0_off6 c) (k0_off6_inb c)) rfl)
  isplitl [HM]; · iexact HM
  iintro HM
  rw [wp_ret]; imodintro
  iapply Hk
  iexact HM

theorem part_28 (K : GSem nD τ sig → ℕ) (c : Dev nD) (v2 : BitVec 32) (v8 : BitVec 32) (v10 : BitVec 32)  (Kt) :
    iprop((Mid m K c ![6, 6, 6, 6, 6, 4, 3, 3]) ∗ ((Mid m K c ![6, 6, 6, 6, 6, 6, 4, 3]) -∗ Kt ⟨⟩))
      ⊢ wp frame (wpE (defs₀ (F := F)) 𝒱₀ (c : Thread nD τ) none) Set.univ (k0_part28 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part28_eq_skeleton]; unfold k0_part28_skel
  simp only [Prog.lift, Prog.bind_op, Prog.bind_ret, Prog.pure_eq_ret]
  iintro ⟨HM, Hk⟩
  iapply (wait_sf m K c ![6, 6, 6, 6, 6, 4, 3, 3] ![6, 6, 6, 6, 6, 5, 3, 3] 5 _ rfl rfl rfl (by decide) (by decide) (src := vC (k0_off5 c) (k0_off5_inb c)) (dst := vC (k0_off5 c) (k0_off5_inb c)) rfl)
  isplitl [HM]; · iexact HM
  iintro HM
  iapply (wait_rf m K c ![6, 6, 6, 6, 6, 5, 3, 3] ![6, 6, 6, 6, 6, 6, 3, 3] 5 _ rfl rfl rfl (by decide) (by decide) (src := vC (k0_off5 c) (k0_off5_inb c)) (dst := vC (k0_off5 c) (k0_off5_inb c)) rfl)
  isplitl [HM]; · iexact HM
  iintro HM
  iapply (wait_sx m K c ![6, 6, 6, 6, 6, 6, 3, 3] ![6, 6, 6, 6, 6, 6, 4, 3] 6 _ rfl rfl rfl (by decide) (by decide) (src := kC (k0_off7 c) (k0_off7_inb c)) (dst := kC (k0_off8 c) (k0_off8_inb c)) rfl)
  isplitl [HM]; · iexact HM
  iintro HM
  rw [wp_ret]; imodintro
  iapply Hk
  iexact HM

theorem part_29 (K : GSem nD τ sig → ℕ) (c : Dev nD) (v2 : BitVec 32) (v8 : BitVec 32) (v10 : BitVec 32)  (Kt) :
    iprop((Mid m K c ![6, 6, 6, 6, 6, 6, 4, 3]) ∗ ((Mid m K c ![6, 6, 6, 6, 6, 6, 6, 4]) -∗ Kt ⟨⟩))
      ⊢ wp frame (wpE (defs₀ (F := F)) 𝒱₀ (c : Thread nD τ) none) Set.univ (k0_part29 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10) Kt := by
  rw [k0_part29_eq_skeleton]; unfold k0_part29_skel
  simp only [Prog.lift, Prog.bind_op, Prog.bind_ret, Prog.pure_eq_ret]
  iintro ⟨HM, Hk⟩
  iapply (wait_sf m K c ![6, 6, 6, 6, 6, 6, 4, 3] ![6, 6, 6, 6, 6, 6, 5, 3] 6 _ rfl rfl rfl (by decide) (by decide) (src := kC (k0_off7 c) (k0_off7_inb c)) (dst := kC (k0_off7 c) (k0_off7_inb c)) rfl)
  isplitl [HM]; · iexact HM
  iintro HM
  iapply (wait_rf m K c ![6, 6, 6, 6, 6, 6, 5, 3] ![6, 6, 6, 6, 6, 6, 6, 3] 6 _ rfl rfl rfl (by decide) (by decide) (src := kC (k0_off7 c) (k0_off7_inb c)) (dst := kC (k0_off7 c) (k0_off7_inb c)) rfl)
  isplitl [HM]; · iexact HM
  iintro HM
  iapply (wait_sx m K c ![6, 6, 6, 6, 6, 6, 6, 3] ![6, 6, 6, 6, 6, 6, 6, 4] 7 _ rfl rfl rfl (by decide) (by decide) (src := vC (k0_off7 c) (k0_off7_inb c)) (dst := vC (k0_off8 c) (k0_off8_inb c)) rfl)
  isplitl [HM]; · iexact HM
  iintro HM
  rw [wp_ret]; imodintro
  iapply Hk
  iexact HM

theorem part_30 (K : GSem nD τ sig → ℕ) (c : Dev nD) (v2 : BitVec 32) (v8 : BitVec 32) (v10 : BitVec 32) (v161 : FVec F S64x512 .bf16) (v169 : FVec F S1x512 .f32) (v171 : FVec F S64x512 .f32)  (Kt) :
    iprop((Mid m K c ![6, 6, 6, 6, 6, 6, 6, 4]) ∗ ((Got m c ∗ Fin6 m K c) -∗ Kt ⟨k0_pay78 v161 v171 (kld1 m c 0 0) (vld1 m c 0 0), k0_pay79 v161 v169 (kld1 m c 0 0)⟩))
      ⊢ wp frame (wpE (defs₀ (F := F)) 𝒱₀ (c : Thread nD τ) none) Set.univ (k0_part30 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 c v2 v8 v10 v161 v169 v171) Kt := by
  rw [k0_part30_eq_skeleton]; unfold k0_part30_skel
  simp only [Prog.lift, Prog.bind_op, Prog.bind_ret, Prog.pure_eq_ret]
  iintro ⟨HM, Hk⟩
  iapply (wait_sf m K c ![6, 6, 6, 6, 6, 6, 6, 4] ![6, 6, 6, 6, 6, 6, 6, 5] 7 _ rfl rfl rfl (by decide) (by decide) (src := vC (k0_off7 c) (k0_off7_inb c)) (dst := vC (k0_off7 c) (k0_off7_inb c)) rfl)
  isplitl [HM]; · iexact HM
  iintro HM
  iapply (wait_rf m K c ![6, 6, 6, 6, 6, 6, 6, 5] ![6, 6, 6, 6, 6, 6, 6, 6] 7 _ rfl rfl rfl (by decide) (by decide) (src := vC (k0_off7 c) (k0_off7_inb c)) (dst := vC (k0_off7 c) (k0_off7_inb c)) rfl)
  isplitl [HM]; · iexact HM
  iintro HM
  ihave ⟨HG, HF⟩ := (mid_done m K c _ (by decide)) $$ HM
  unfold Got; icases HG with ⟨⟨HK0, HV0⟩, ⟨HK1, HV1⟩⟩
  iapply (load_k1 m c 0 0 rfl)
  isplitl [HK0]; · iexact HK0
  iintro HK0
  iapply (load_v1 m c 0 0 rfl)
  isplitl [HV0]; · iexact HV0
  iintro HV0
  rw [wp_ret]; imodintro
  iapply Hk
  iframe HF HK0 HV0 HK1 HV1

end Cert.Attn
-- ==== Proof.PartsOut.lean ====
/-
The parts of the kernel's program that write the output.
-/
module

public import proofs.«01_k».proof.Proof.Parts

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem part_31 (c : Dev nD) (v175 : FVec F S64x512 .bf16) (v183 : FVec F S1x512 .f32) (v185 : FVec F S64x512 .f32) (v793 : FVec F S64x512 .f32) (v794 : FVec F S1x512 .f32) (hw0 : (k0_pay80 v793 v794) = OUTP m c 0 0) (hw1 : (k0_pay81 v175 v183 v185 (kld1 m c 0 1) (vld1 m c 0 1)) = OUTP m c 0 1) (Kt) :
    iprop((Got m c ∗ outP m c 0) ∗ ((Got m c ∗ outP m c 2) -∗ Kt (k0_pay82 (kld1 m c 0 2))))
      ⊢ wp frame (wpE (defs₀ (F := F)) 𝒱₀ (c : Thread nD τ) none) Set.univ (k0_part31 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v175 v183 v185 v793 v794) Kt := by
  rw [k0_part31_eq_skeleton]; unfold k0_part31_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 0)
  isplitl [HO]; · iexact HO
  iintro %_ HO
  iapply (store_o m c 0 0 0 1 rfl rfl rfl hw0)
  isplitl [HO]; · iexact HO
  iintro HO
  iapply (load_k1 m c 0 1 rfl)
  isplitl [HK0]; · iexact HK0
  iintro HK0
  iapply (load_v1 m c 0 1 rfl)
  isplitl [HV0]; · iexact HV0
  iintro HV0
  iapply (load_o m c 1)
  isplitl [HO]; · iexact HO
  iintro %_ HO
  iapply (store_o m c 0 1 1 2 rfl rfl rfl hw1)
  isplitl [HO]; · iexact HO
  iintro HO
  iapply (load_k1 m c 0 2 rfl)
  isplitl [HK0]; · iexact HK0
  iintro HK0
  rw [wp_ret]; imodintro
  iapply Hk
  isplitl [HK0 HV0 HK1 HV1]
  · iframe HK0 HV0 HK1 HV1
  iexact HO

theorem part_32 (c : Dev nD) (v215 : FVec F S64x512 .bf16) (v223 : FVec F S1x512 .f32) (v225 : FVec F S64x512 .f32) (v229 : FVec F S64x512 .bf16) (v237 : FVec F S1x512 .f32) (v239 : FVec F S64x512 .f32) (v823 : FVec F S64x512 .bf16) (hw2 : (k0_pay83 v215 v223 v225 v823 (vld1 m c 0 2)) = OUTP m c 0 2) (Kt) :
    iprop((Got m c ∗ outP m c 2) ∗ ((Got m c ∗ outP m c 3) -∗ Kt ⟨k0_pay85 v229 v239 (kld1 m c 0 3) (vld1 m c 0 3), k0_pay86 v229 v237 (kld1 m c 0 3)⟩))
      ⊢ wp frame (wpE (defs₀ (F := F)) 𝒱₀ (c : Thread nD τ) none) Set.univ (k0_part32 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v215 v223 v225 v229 v237 v239 v823) Kt := by
  rw [k0_part32_eq_skeleton]; unfold k0_part32_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_v1 m c 0 2 rfl)
  isplitl [HV0]; · iexact HV0
  iintro HV0
  iapply (load_o m c 2)
  isplitl [HO]; · iexact HO
  iintro %_ HO
  iapply (store_o m c 0 2 2 3 rfl rfl rfl hw2)
  isplitl [HO]; · iexact HO
  iintro HO
  iapply (load_k1 m c 0 3 rfl)
  isplitl [HK0]; · iexact HK0
  iintro HK0
  iapply (load_v1 m c 0 3 rfl)
  isplitl [HV0]; · iexact HV0
  iintro HV0
  rw [wp_ret]; imodintro
  iapply Hk
  isplitl [HK0 HV0 HK1 HV1]
  · iframe HK0 HV0 HK1 HV1
  iexact HO

theorem part_33 (c : Dev nD) (v269 : FVec F S64x512 .bf16) (v277 : FVec F S1x512 .f32) (v279 : FVec F S64x512 .f32) (v853 : FVec F S64x512 .f32) (v856 : FVec F S1x512 .f32) (hw3 : (k0_pay87 v853 v856) = OUTP m c 0 3) (hw4 : (k0_pay88 v269 v277 v279 (kld1 m c 0 4) (vld1 m c 0 4)) = OUTP m c 0 4) (Kt) :
    iprop((Got m c ∗ outP m c 3) ∗ ((Got m c ∗ outP m c 5) -∗ Kt (k0_pay89 (kld1 m c 0 5))))
      ⊢ wp frame (wpE (defs₀ (F := F)) 𝒱₀ (c : Thread nD τ) none) Set.univ (k0_part33 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v269 v277 v279 v853 v856) Kt := by
  rw [k0_part33_eq_skeleton]; unfold k0_part33_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 3)
  isplitl [HO]; · iexact HO
  iintro %_ HO
  iapply (store_o m c 0 3 3 4 rfl rfl rfl hw3)
  isplitl [HO]; · iexact HO
  iintro HO
  iapply (load_k1 m c 0 4 rfl)
  isplitl [HK0]; · iexact HK0
  iintro HK0
  iapply (load_v1 m c 0 4 rfl)
  isplitl [HV0]; · iexact HV0
  iintro HV0
  iapply (load_o m c 4)
  isplitl [HO]; · iexact HO
  iintro %_ HO
  iapply (store_o m c 0 4 4 5 rfl rfl rfl hw4)
  isplitl [HO]; · iexact HO
  iintro HO
  iapply (load_k1 m c 0 5 rfl)
  isplitl [HK0]; · iexact HK0
  iintro HK0
  rw [wp_ret]; imodintro
  iapply Hk
  isplitl [HK0 HV0 HK1 HV1]
  · iframe HK0 HV0 HK1 HV1
  iexact HO

theorem part_34 (c : Dev nD) (v283 : FVec F S64x512 .bf16) (v291 : FVec F S1x512 .f32) (v293 : FVec F S64x512 .f32) (v323 : FVec F S64x512 .bf16) (v331 : FVec F S1x512 .f32) (v333 : FVec F S64x512 .f32) (v883 : FVec F S64x512 .bf16) (hw5 : (k0_pay90 v283 v291 v293 v883 (vld1 m c 0 5)) = OUTP m c 0 5) (Kt) :
    iprop((Got m c ∗ outP m c 5) ∗ ((Got m c ∗ outP m c 6) -∗ Kt (k0_pay91 v323 v331 v333 (kld1 m c 0 6) (vld1 m c 0 6))))
      ⊢ wp frame (wpE (defs₀ (F := F)) 𝒱₀ (c : Thread nD τ) none) Set.univ (k0_part34 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v283 v291 v293 v323 v331 v333 v883) Kt := by
  rw [k0_part34_eq_skeleton]; unfold k0_part34_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_v1 m c 0 5 rfl)
  isplitl [HV0]; · iexact HV0
  iintro HV0
  iapply (load_o m c 5)
  isplitl [HO]; · iexact HO
  iintro %_ HO
  iapply (store_o m c 0 5 5 6 rfl rfl rfl hw5)
  isplitl [HO]; · iexact HO
  iintro HO
  iapply (load_k1 m c 0 6 rfl)
  isplitl [HK0]; · iexact HK0
  iintro HK0
  iapply (load_v1 m c 0 6 rfl)
  isplitl [HV0]; · iexact HV0
  iintro HV0
  rw [wp_ret]; imodintro
  iapply Hk
  isplitl [HK0 HV0 HK1 HV1]
  · iframe HK0 HV0 HK1 HV1
  iexact HO

theorem part_35 (c : Dev nD) (v337 : FVec F S64x512 .bf16) (v345 : FVec F S1x512 .f32) (v347 : FVec F S64x512 .f32) (v918 : FVec F S64x512 .f32) (hw6 : (k0_pay92 v918) = OUTP m c 0 6) (hw7 : (k0_pay93 v337 v345 v347 (kld1 m c 0 7) (vld1 m c 0 7)) = OUTP m c 0 7) (Kt) :
    iprop((Got m c ∗ outP m c 6) ∗ ((Got m c ∗ outP m c 8) -∗ Kt ⟨k0_pay94 (kld1 m c 1 0), k0_pay95 (vld1 m c 1 0)⟩))
      ⊢ wp frame (wpE (defs₀ (F := F)) 𝒱₀ (c : Thread nD τ) none) Set.univ (k0_part35 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v337 v345 v347 v918) Kt := by
  rw [k0_part35_eq_skeleton]; unfold k0_part35_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 6)
  isplitl [HO]; · iexact HO
  iintro %_ HO
  iapply (store_o m c 0 6 6 7 rfl rfl rfl hw6)
  isplitl [HO]; · iexact HO
  iintro HO
  iapply (load_k1 m c 0 7 rfl)
  isplitl [HK0]; · iexact HK0
  iintro HK0
  iapply (load_v1 m c 0 7 rfl)
  isplitl [HV0]; · iexact HV0
  iintro HV0
  iapply (load_o m c 7)
  isplitl [HO]; · iexact HO
  iintro %_ HO
  iapply (store_o m c 0 7 7 8 rfl rfl rfl hw7)
  isplitl [HO]; · iexact HO
  iintro HO
  iapply (load_k1 m c 1 0 rfl)
  isplitl [HK1]; · iexact HK1
  iintro HK1
  iapply (load_v1 m c 1 0 rfl)
  isplitl [HV1]; · iexact HV1
  iintro HV1
  rw [wp_ret]; imodintro
  iapply Hk
  isplitl [HK0 HV0 HK1 HV1]
  · iframe HK0 HV0 HK1 HV1
  iexact HO

theorem part_36 (c : Dev nD) (v377 : FVec F S64x512 .bf16) (v385 : FVec F S1x512 .f32) (v387 : FVec F S64x512 .f32) (v391 : FVec F S64x512 .bf16) (v399 : FVec F S1x512 .f32) (v401 : FVec F S64x512 .f32) (v943 : FVec F S64x512 .bf16) (v945 : FVec F S64x512 .fp8e4m3) (hw8 : (k0_pay96 v377 v385 v387 v943 v945) = OUTP m c 1 0) (Kt) :
    iprop((Got m c ∗ outP m c 8) ∗ ((Got m c ∗ outP m c 9) -∗ Kt (k0_pay97 v391 v399 v401 (kld1 m c 1 1) (vld1 m c 1 1))))
      ⊢ wp frame (wpE (defs₀ (F := F)) 𝒱₀ (c : Thread nD τ) none) Set.univ (k0_part36 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v377 v385 v387 v391 v399 v401 v943 v945) Kt := by
  rw [k0_part36_eq_skeleton]; unfold k0_part36_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 8)
  isplitl [HO]; · iexact HO
  iintro %_ HO
  iapply (store_o m c 1 0 8 9 rfl rfl rfl hw8)
  isplitl [HO]; · iexact HO
  iintro HO
  iapply (load_k1 m c 1 1 rfl)
  isplitl [HK1]; · iexact HK1
  iintro HK1
  iapply (load_v1 m c 1 1 rfl)
  isplitl [HV1]; · iexact HV1
  iintro HV1
  rw [wp_ret]; imodintro
  iapply Hk
  isplitl [HK0 HV0 HK1 HV1]
  · iframe HK0 HV0 HK1 HV1
  iexact HO

theorem part_37 (c : Dev nD) (v431 : FVec F S64x512 .bf16) (v439 : FVec F S1x512 .f32) (v441 : FVec F S64x512 .f32) (v445 : FVec F S64x512 .bf16) (v978 : FVec F S64x512 .f32) (hw9 : (k0_pay98 v978) = OUTP m c 1 1) (hw10 : (k0_pay99 v431 v439 v441 (kld1 m c 1 2) (vld1 m c 1 2)) = OUTP m c 1 2) (Kt) :
    iprop((Got m c ∗ outP m c 9) ∗ ((Got m c ∗ outP m c 11) -∗ Kt ⟨k0_pay100 (vld1 m c 1 3), k0_pay101 v445 (kld1 m c 1 3)⟩))
      ⊢ wp frame (wpE (defs₀ (F := F)) 𝒱₀ (c : Thread nD τ) none) Set.univ (k0_part37 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v431 v439 v441 v445 v978) Kt := by
  rw [k0_part37_eq_skeleton]; unfold k0_part37_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 9)
  isplitl [HO]; · iexact HO
  iintro %_ HO
  iapply (store_o m c 1 1 9 10 rfl rfl rfl hw9)
  isplitl [HO]; · iexact HO
  iintro HO
  iapply (load_k1 m c 1 2 rfl)
  isplitl [HK1]; · iexact HK1
  iintro HK1
  iapply (load_v1 m c 1 2 rfl)
  isplitl [HV1]; · iexact HV1
  iintro HV1
  iapply (load_o m c 10)
  isplitl [HO]; · iexact HO
  iintro %_ HO
  iapply (store_o m c 1 2 10 11 rfl rfl rfl hw10)
  isplitl [HO]; · iexact HO
  iintro HO
  iapply (load_k1 m c 1 3 rfl)
  isplitl [HK1]; · iexact HK1
  iintro HK1
  iapply (load_v1 m c 1 3 rfl)
  isplitl [HV1]; · iexact HV1
  iintro HV1
  rw [wp_ret]; imodintro
  iapply Hk
  isplitl [HK0 HV0 HK1 HV1]
  · iframe HK0 HV0 HK1 HV1
  iexact HO

theorem part_38 (c : Dev nD) (v453 : FVec F S1x512 .f32) (v455 : FVec F S64x512 .f32) (v485 : FVec F S64x512 .bf16) (v493 : FVec F S1x512 .f32) (v495 : FVec F S64x512 .f32) (v1006 : FVec F S64x512 .bf16) (v1007 : FVec F S512x512 .f32) (hw11 : (k0_pay102 v453 v455 v1006 v1007) = OUTP m c 1 3) (Kt) :
    iprop((Got m c ∗ outP m c 11) ∗ ((Got m c ∗ outP m c 12) -∗ Kt (k0_pay103 v485 v493 v495 (kld1 m c 1 4) (vld1 m c 1 4))))
      ⊢ wp frame (wpE (defs₀ (F := F)) 𝒱₀ (c : Thread nD τ) none) Set.univ (k0_part38 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v453 v455 v485 v493 v495 v1006 v1007) Kt := by
  rw [k0_part38_eq_skeleton]; unfold k0_part38_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 11)
  isplitl [HO]; · iexact HO
  iintro %_ HO
  iapply (store_o m c 1 3 11 12 rfl rfl rfl hw11)
  isplitl [HO]; · iexact HO
  iintro HO
  iapply (load_k1 m c 1 4 rfl)
  isplitl [HK1]; · iexact HK1
  iintro HK1
  iapply (load_v1 m c 1 4 rfl)
  isplitl [HV1]; · iexact HV1
  iintro HV1
  iapply (load_o m c 12)
  isplitl [HO]; · iexact HO
  iintro %_ HO
  rw [wp_ret]; imodintro
  iapply Hk
  isplitl [HK0 HV0 HK1 HV1]
  · iframe HK0 HV0 HK1 HV1
  iexact HO

theorem part_39 (c : Dev nD) (v499 : FVec F S64x512 .bf16) (v507 : FVec F S1x512 .f32) (v509 : FVec F S64x512 .f32) (v539 : FVec F S64x512 .bf16) (v1041 : FVec F S1x1x64x512 .f32) (hw12 : v1041 = OUTP m c 1 4) (hw13 : (k0_pay104 v499 v507 v509 (kld1 m c 1 5) (vld1 m c 1 5)) = OUTP m c 1 5) (Kt) :
    iprop((Got m c ∗ outP m c 12) ∗ ((Got m c ∗ outP m c 14) -∗ Kt ⟨k0_pay105 (vld1 m c 1 6), k0_pay106 v539 (kld1 m c 1 6), k0_pay107 v539 (kld1 m c 1 6)⟩))
      ⊢ wp frame (wpE (defs₀ (F := F)) 𝒱₀ (c : Thread nD τ) none) Set.univ (k0_part39 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v499 v507 v509 v539 v1041) Kt := by
  rw [k0_part39_eq_skeleton]; unfold k0_part39_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (store_o m c 1 4 12 13 rfl rfl rfl hw12)
  isplitl [HO]; · iexact HO
  iintro HO
  iapply (load_k1 m c 1 5 rfl)
  isplitl [HK1]; · iexact HK1
  iintro HK1
  iapply (load_v1 m c 1 5 rfl)
  isplitl [HV1]; · iexact HV1
  iintro HV1
  iapply (load_o m c 13)
  isplitl [HO]; · iexact HO
  iintro %_ HO
  iapply (store_o m c 1 5 13 14 rfl rfl rfl hw13)
  isplitl [HO]; · iexact HO
  iintro HO
  iapply (load_k1 m c 1 6 rfl)
  isplitl [HK1]; · iexact HK1
  iintro HK1
  iapply (load_v1 m c 1 6 rfl)
  isplitl [HV1]; · iexact HV1
  iintro HV1
  rw [wp_ret]; imodintro
  iapply Hk
  isplitl [HK0 HV0 HK1 HV1]
  · iframe HK0 HV0 HK1 HV1
  iexact HO

theorem part_40 (c : Dev nD) (v547 : FVec F S1x512 .f32) (v549 : FVec F S64x512 .f32) (v553 : FVec F S64x512 .bf16) (v561 : FVec F S1x512 .f32) (v563 : FVec F S64x512 .f32) (v1066 : FVec F S64x512 .bf16) (v1068 : FVec F S512x512 .f32) (v1069 : FVec F S512 .f32) (hw14 : (k0_pay108 v547 v549 v1066 v1068 v1069) = OUTP m c 1 6) (hw15 : (k0_pay109 v553 v561 v563 (kld1 m c 1 7) (vld1 m c 1 7)) = OUTP m c 1 7) (Kt) :
    iprop((Got m c ∗ outP m c 14) ∗ (∀ w0 : BitVec 32, (Got m c ∗ outP m c 16) -∗ Kt w0))
      ⊢ wp frame (wpE (defs₀ (F := F)) 𝒱₀ (c : Thread nD τ) none) Set.univ (k0_part40 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v547 v549 v553 v561 v563 v1066 v1068 v1069) Kt := by
  rw [k0_part40_eq_skeleton]; unfold k0_part40_skel
  simp only [Prog.lift, Prog.bind_op, Prog.bind_ret, Prog.pure_eq_ret]
  iintro ⟨⟨HG, HO⟩, Hk⟩
  unfold Got; icases HG with ⟨⟨HK0, HV0⟩, ⟨HK1, HV1⟩⟩
  iapply (load_o m c 14)
  isplitl [HO]; · iexact HO
  iintro %_ HO
  iapply (store_o m c 1 6 14 15 rfl rfl rfl hw14)
  isplitl [HO]; · iexact HO
  iintro HO
  iapply (load_k1 m c 1 7 rfl)
  isplitl [HK1]; · iexact HK1
  iintro HK1
  iapply (load_v1 m c 1 7 rfl)
  isplitl [HV1]; · iexact HV1
  iintro HV1
  iapply (load_o m c 15)
  isplitl [HO]; · iexact HO
  iintro %_ HO
  iapply (store_o m c 1 7 15 16 rfl rfl rfl hw15)
  isplitl [HO]; · iexact HO
  iintro HO
  rw [wp_ret]; imodintro
  iapply Hk
  isplitl [HK0 HV0 HK1 HV1]
  · iframe HK0 HV0 HK1 HV1
  iexact HO

end Cert.Attn
-- ==== Proof.Enter.lean ====
/-
The start of the kernel on one device: the two barrier signals, which give the partners the pieces of the second slot
that they fill, the stores of the device's own keys and values into the first slot, and the wait on the barrier.
-/
module

public import proofs.«01_k».proof.Proof.PartsOut

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device has at the start -/

/-- A chunk's invariants: its four semaphores here, and the two it credits elsewhere. -/
def InvCh (K : GSem nD τ sig → ℕ) (c : Dev nD) (ch : Ch) : sProp 𝕄 :=
  iprop(cellInv ER (Rd m) (K (dC c (sx ch))) (dC c (sx ch)) ∗ cellInv ER (Rd m) (K (dC c (rx ch))) (dC c (rx ch))
    ∗ cellInv ER (Rd m) (K (dC c (sf ch))) (dC c (sf ch)) ∗ cellInv ER (Rd m) (K (dC c (rf ch))) (dC c (rf ch))
    ∗ cellInv ER (Rd m) (K (dC (xp c) (rx ch))) (dC (xp c) (rx ch)) ∗ cellInv ER (Rd m) (K (dC (yp c) (rf ch))) (dC (yp c) (rf ch)))
/-- The invariants of the barrier and of the last handshake, here and at the partners; the partners' barriers are at their round. -/
def InvB (K : GSem nD τ sig → ℕ) (c : Dev nD) : sProp 𝕄 :=
  iprop(cellInv ER (Rd m) (K (barC c)) (barC c) ∗ cellInv ER (Rd m) (K (barC (xp c))) (barC (xp c)) ∗ cellInv ER (Rd m) (K (barC (yp c))) (barC (yp c))
    ∗ cellInv ER (Rd m) (K (exC c)) (exC c) ∗ cellInv ER (Rd m) (K (exC (xp c))) (exC (xp c)) ∗ cellInv ER (Rd m) (K (exC (yp c))) (exC (yp c))
    ∗ reached ER (barC (xp c)) 0 ∗ reached ER (barC (yp c)) 0)
instance invCh_persistent (K : GSem nD τ sig → ℕ) (c : Dev nD) (ch : Ch) : BI.Persistent (InvCh m K c ch) := by unfold InvCh; infer_instance
instance invB_persistent (K : GSem nD τ sig → ℕ) (c : Dev nD) : BI.Persistent (InvB m K c) := by unfold InvB; infer_instance

/-- A chunk's semaphores here are at their round. -/
def RchedCh (c : Dev nD) (ch : Ch) : sProp 𝕄 :=
  iprop(reached ER (dC c (sx ch)) 0 ∗ reached ER (dC c (rx ch)) 0 ∗ reached ER (dC c (sf ch)) 0 ∗ reached ER (dC c (rf ch)) 0)
omit [FloatOps F] in
instance rchedCh_persistent (c : Dev nD) (ch : Ch) : BI.Persistent (RchedCh (F := F) c ch) := by unfold RchedCh; infer_instance

/-- A chunk's positions, tokens, credits. -/
def LinCh (c : Dev nD) (ch : Ch) : sProp 𝕄 :=
  iprop((a₀ c (sx ch) ∗ a₀ c (rx ch) ∗ a₀ c (sf ch) ∗ a₀ c (rf ch))
    ∗ (tk c (sx ch) ∗ tk (xp c) (rx ch) ∗ tk c (sf ch) ∗ tk (yp c) (rf ch)) ∗ cr c (rx ch) ch ∗ cr c (rf ch) ch)

/-- One half and the other, in the order of the device's own `y`. -/
theorem own_other (c : Dev nD) (Φ : ℕ → sProp 𝕄) : iprop(Φ 0 ∗ Φ 1) ⊢ iprop(Φ (yb c) ∗ Φ (1 - yb c)) := by
  rcases (show yb c = 0 ∨ yb c = 1 by have := yb_lt c; omega) with e | e <;> rw [e]
  iintro ⟨H0, H1⟩
  isplitl [H1]; · iexact H1
  iexact H0

/-- The chunks as the exchange starts. -/
theorem mid_intro (K : GSem nD τ sig → ℕ) (c : Dev nD) :
    iprop((bigSep Finset.univ fun ch => InvCh m K c ch) ∗ (bigSep Finset.univ fun ch => RchedCh c ch)
        ∗ (bigSep Finset.univ fun ch : Ch => reached ER (dC (xp c) (rx ch)) 0) ∗ (bigSep Finset.univ fun ch : Ch => reached ER (dC (yp c) (rf ch)) 0)
        ∗ levAts L lv ∗ (bigSep Finset.univ fun ch => LinCh c ch) ∗ (bigSep Finset.univ fun ch : Ch => cReg m c ch 0 (yb c) c)
        ∗ (bigSep Finset.univ fun ch : Ch => cAny (xp c) ch 1 (yb c)) ∗ (bigSep Finset.univ fun ch : Ch => cAny (yp c) ch 1 (yb c))
        ∗ ∃ W, owes (c : Thread nD τ) (owM c Finset.univ Finset.univ) W)
      ⊢ Mid m K c ![0, 0, 0, 0, 0, 0, 0, 0] := by
  have hz : ∀ ch : Ch, (![0, 0, 0, 0, 0, 0, 0, 0] : Ch → ℕ) ch = 0 := by decide
  have hO : Ow c ![0, 0, 0, 0, 0, 0, 0, 0] = owM c Finset.univ Finset.univ := by
    unfold Ow
    rw [Finset.filter_true_of_mem (s := Finset.univ) (p := fun ch => (![0, 0, 0, 0, 0, 0, 0, 0] : Ch → ℕ) ch < 1) fun x _ => by rw [hz]; decide,
      Finset.filter_true_of_mem (s := Finset.univ) (p := fun ch => (![0, 0, 0, 0, 0, 0, 0, 0] : Ch → ℕ) ch < 3) fun x _ => by rw [hz]; decide]
  unfold Mid
  rw [hO]
  iintro ⟨HI, HR, Hx, Hy, HL, Hl, H0, H1, H2, HO⟩
  isplitl [HI HR Hx Hy]
  · iapply (show iprop((bigSep Finset.univ fun ch => InvCh m K c ch) ∗ (bigSep Finset.univ fun ch => RchedCh c ch)
        ∗ (bigSep Finset.univ fun ch : Ch => reached ER (dC (xp c) (rx ch)) 0) ∗ (bigSep Finset.univ fun ch : Ch => reached ER (dC (yp c) (rf ch)) 0))
        ⊢ (bigSep Finset.univ fun ch => PersCh m K c ch : sProp 𝕄) from by
      rw [← bigSep_sep', ← bigSep_sep', ← bigSep_sep']
      exact bigSep_mono fun ch _ => show iprop(InvCh m K c ch ∗ RchedCh c ch ∗ reached ER (dC (xp c) (rx ch)) 0 ∗ reached ER (dC (yp c) (rf ch)) 0) ⊢ (PersCh m K c ch : sProp 𝕄) from by
        unfold InvCh RchedCh PersCh
        iintro ⟨⟨I1, I2, I3, I4, I5, I6⟩, ⟨R1, -, R3, -⟩, Rx, Ry⟩
        isplitl [I1]; · iexact I1
        isplitl [I2]; · iexact I2
        isplitl [I3]; · iexact I3
        isplitl [I4]; · iexact I4
        isplitl [I5]; · iexact I5
        isplitl [I6]; · iexact I6
        isplitl [R1]; · iexact R1
        isplitl [R3]; · iexact R3
        isplitl [Rx]; · iexact Rx
        iexact Ry)
    isplitl [HI]; · iexact HI
    isplitl [HR]; · iexact HR
    isplitl [Hx]; · iexact Hx
    iexact Hy
  isplitl [HL]; · iexact HL
  isplitr [HO]
  · iapply (show iprop((bigSep Finset.univ fun ch => LinCh c ch) ∗ (bigSep Finset.univ fun ch : Ch => cReg m c ch 0 (yb c) c)
        ∗ (bigSep Finset.univ fun ch : Ch => cAny (xp c) ch 1 (yb c)) ∗ (bigSep Finset.univ fun ch : Ch => cAny (yp c) ch 1 (yb c)))
        ⊢ (bigSep Finset.univ fun ch => Rch m c ch ((![0, 0, 0, 0, 0, 0, 0, 0] : Ch → ℕ) ch) : sProp 𝕄) from by
      rw [← bigSep_sep', ← bigSep_sep', ← bigSep_sep']
      exact bigSep_mono fun ch _ => show iprop(LinCh c ch ∗ cReg m c ch 0 (yb c) c ∗ cAny (xp c) ch 1 (yb c) ∗ cAny (yp c) ch 1 (yb c)) ⊢ (Rch m c ch ((![0, 0, 0, 0, 0, 0, 0, 0] : Ch → ℕ) ch) : sProp 𝕄) from by
        rw [hz]
        simp only [Rch]
        unfold LinCh
        iintro ⟨⟨⟨A1, A2, A3, A4⟩, ⟨T1, T2, T3, T4⟩, C1, C2⟩, H0, H1, H2⟩
        isplitl [H0 H1 T1 T2]
        · isplitl [H0]; · iexact H0
          isplitl [H1]; · iexact H1
          isplitl [T1]; · iexact T1
          iexact T2
        isplitl [A2 C1]
        · isplitl [A2]; · iexact A2
          iexact C1
        isplitl [H2 T3 T4]
        · isplitl [H2]; · iexact H2
          isplitl [T3]; · iexact T3
          iexact T4
        isplitl [A1]; · iexact A1
        isplitl [A3]; · iexact A3
        isplitl [A4]; · iexact A4
        iexact C2)
    isplitl [Hl]; · iexact Hl
    isplitl [H0]; · iexact H0
    isplitl [H1]; · iexact H1
    iexact H2
  iexact HO

/-! ## The two signals -/

/-- What the two signals of the barrier hand over. -/
theorem pay_x (c : Dev nD) :
    iprop((bigSep Finset.univ fun ch : Ch => cAny c ch 1 (yb c)) ∗ (bigSep Finset.univ fun ch => RchedCh c ch) ∗ reached ER (exC c) 0)
      ⊢ (barPayX (F := F) (xp c) : sProp 𝕄) := by
  unfold barPayX
  rw [xp_xp, yb_xp, bigSep_sep']
  iintro ⟨H, HR, HE⟩
  isplitr [HE]
  · isplitl [H]; · iexact H
    iapply (show (bigSep Finset.univ fun ch => RchedCh (F := F) c ch) ⊢ (bigSep Finset.univ fun ch : Ch => reached ER (dC c (rx ch)) 0 : sProp 𝕄) from
      bigSep_mono fun ch _ => show RchedCh c ch ⊢ (reached ER (dC c (rx ch)) 0 : sProp 𝕄) from by
        unfold RchedCh; iintro ⟨-, H, -⟩; iexact H)
    iexact HR
  iexact HE
theorem pay_y (c : Dev nD) :
    iprop((bigSep Finset.univ fun ch : Ch => cAny c ch 1 (1 - yb c)) ∗ (bigSep Finset.univ fun ch => RchedCh c ch) ∗ reached ER (exC c) 0)
      ⊢ (barPayY (F := F) (yp c) : sProp 𝕄) := by
  unfold barPayY
  rw [yp_yp, yb_yp, bigSep_sep']
  iintro ⟨H, HR, HE⟩
  isplitr [HE]
  · isplitl [H]; · iexact H
    iapply (show (bigSep Finset.univ fun ch => RchedCh (F := F) c ch) ⊢ (bigSep Finset.univ fun ch : Ch => reached ER (dC c (rf ch)) 0 : sProp 𝕄) from
      bigSep_mono fun ch _ => show RchedCh c ch ⊢ (reached ER (dC c (rf ch)) 0 : sProp 𝕄) from by
        unfold RchedCh; iintro ⟨-, -, -, H⟩; iexact H)
    iexact HR
  iexact HE

/-- A signal to a partner. -/
theorem signal_one (K : GSem nD τ sig → ℕ) (c n n' : Dev nD) (hn : n' = n) (s : Sem sig) (d : Bool) (O O' : CellTallies nD τ sig Unit)
    (hO : O = O' + tallyAt ((n : Thread nD τ), SemLoc.reg s) () 1) {α : Type} {Q : α → sProp 𝕄} {k : PUnit → Prog (TpuEff nD τ sig (Elt F) Λ₀ .tc) α} :
    iprop(cellInv ER (Rd m) (K ((n : Thread nD τ), SemLoc.reg s)) ((n : Thread nD τ), SemLoc.reg s) ∗ (∃ W, owes (c : Thread nD τ) O W)
        ∗ dutyTok ER ((n : Thread nD τ), SemLoc.reg s) 0 d ∗ (Rd m).payload ((n : Thread nD τ), SemLoc.reg s) 0 d ∗ reached ER ((n : Thread nD τ), SemLoc.reg s) 0)
      ⊢ iprop(((∃ W, owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) s 1) k) Q) := by
  subst hn
  subst hO
  iintro ⟨HI, ⟨%W, HO⟩, Ht, Hp, Hr⟩ Hk
  iapply (Rounds.wp_signal 𝒱₀ ER (Rd m) (c : Thread nD τ) none (dst := (n' : Thread nD τ)) (κ := K ((n' : Thread nD τ), SemLoc.reg s))
      (d := d) (by rw [duties_reg]; exact Finset.mem_univ _) (amount_reg m n' s d) () O' rfl) $$ [HI HO Ht Hp Hr]
  · isplitl [HI]; · iexact HI
    isplitl [HO]; · iexact HO
    isplitl [Ht]; · iexact Ht
    isplitl [Hp]; · iexact Hp
    iexact Hr
  iintro HO
  iapply Hk
  iexists W
  iexact HO

/-- A wait for the two units of the barrier or of the last handshake. -/
theorem wait_two (K : GSem nD τ sig → ℕ) (c : Dev nD) (s : Sem sig) (O : CellTallies nD τ sig Unit) (n : ℕ) (hl : lvS (.reg s) ≤ n) (hO : Above n O)
    {α : Type} {Q : α → sProp 𝕄} {k : PUnit → Prog (TpuEff nD τ sig (Elt F) Λ₀ .tc) α} :
    iprop(cellInv ER (Rd m) (K ((c : Thread nD τ), SemLoc.reg s)) ((c : Thread nD τ), SemLoc.reg s) ∗ levAts L lv ∗ (∃ W, owes (c : Thread nD τ) O W)
        ∗ atPos ER ((c : Thread nD τ), SemLoc.reg s) 0 ∅ 0 ∗ cred (tallyAt ((c : Thread nD τ), SemLoc.reg s) () 2))
      ⊢ iprop(((∃ W, owes (c : Thread nD τ) O W) ∗ atPos ER ((c : Thread nD τ), SemLoc.reg s) (0 + 1) ∅ 0
            ∗ (bigSep ((Rd (F := F) m).duties ((c : Thread nD τ), SemLoc.reg s) 0 \ ∅) fun d => (Rd (F := F) m).payload ((c : Thread nD τ), SemLoc.reg s) 0 d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s 2) k) Q) := by
  iintro ⟨HI, #HL, ⟨%W, HO⟩, Ha, Hc⟩ Hk
  iapply (Rounds.wp_wait_rest_token 𝒱₀ ER (Rd m) (c : Thread nD τ) none (κ := K ((c : Thread nD τ), SemLoc.reg s))
      (wpE_semWait_eq 𝒱₀ (c : Thread nD τ) none Set.univ) (Set.mem_univ _) () (O := O) (W := W) (R := 0) (m := 0) (T := ∅)
      (by rw [expect_reg])) $$ [HI HO Ha Hc]
  · isplitl [HI]; · iexact HI
    isplitl [Hc]; · iexact Hc
    isplitl [HO]; · iexact HO
    isplitr; · iapply (mayWait c (.reg s) n hl O hO); iexact HL
    iexact Ha
  iintro ⟨HO, Ha, -, Hpay⟩
  iapply Hk
  isplitl [HO]; · iexists _; iexact HO
  isplitl [Ha]; · iexact Ha
  iexact Hpay

/-! ## The first two parts of the kernel -/

theorem part_1 (K : GSem nD τ sig → ℕ) (c : Dev nD) (Kt) :
    iprop((InvB m K c ∗ (bigSep Finset.univ fun ch => RchedCh c ch) ∗ reached ER (exC c) 0 ∗ (dutyTok ER (barC (xp c)) 0 false ∗ dutyTok ER (barC (yp c)) 0 true)
        ∗ (bigSep Finset.univ fun ch : Ch => cAny c ch 1 (yb c)) ∗ (bigSep Finset.univ fun ch : Ch => cAny c ch 1 (1 - yb c))
        ∗ kAny c (bat 0 0) ∗ StgI m c ∗ ∃ W, owes (c : Thread nD τ) (O₀ c) W)
      ∗ (∀ w2 : BitVec 32, ∀ w5 : BitVec 32, ∀ w8 : BitVec 32, ∀ w9 : BitVec 32, ∀ w10 : BitVec 32,
          (kReg m c (bat 0 0) c ∗ StgI m c ∗ ∃ W, owes (c : Thread nD τ) (owM c Finset.univ Finset.univ) W)
            -∗ Kt ⟨c, w2, w5, w8, w9, w10, SemArray.scalar (sig.barrier 0 rfl)⟩))
      ⊢ wp frame (wpE (defs₀ (F := F)) 𝒱₀ (c : Thread nD τ) none) Set.univ (k0_part1 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6) Kt := by
  rw [k0_part1_eq_skeleton]; unfold k0_part1_skel
  simp only [semSignalWord, semWaitWord, Prog.lift, Prog.bind_op, Prog.bind_ret, Prog.pure_eq_ret, wp_deviceId]
  unfold InvB
  iintro ⟨⟨⟨#-, #HIx, #HIy, #-, #-, #-, #HrX, #HrY⟩, #HR, #HE, ⟨Htx, Hty⟩, HA, HB, Hk0, HS, HO⟩, Hk⟩
  iapply (signal_one m K c (xp c) _ (Fin.ext ((k0_dev1_eq c).trans (dev_x c))) barS false (O₀ c) (O₁ c) rfl) $$ [HO Htx HA]
  · isplitr; · iexact HIx
    isplitl [HO]; · iexact HO
    isplitl [Htx]; · iexact Htx
    isplitl [HA]
    · rw [payload_barX]
      iapply (pay_x c)
      isplitl [HA]; · iexact HA
      isplitr; · iexact HR
      iexact HE
    iexact HrX
  iintro HO
  iapply (signal_one m K c (yp c) _ (Fin.ext ((k0_dev2_eq c).trans (dev_y c))) barS true (O₁ c) (owM c Finset.univ Finset.univ) rfl) $$ [HO Hty HB]
  · isplitr; · iexact HIy
    isplitl [HO]; · iexact HO
    isplitl [Hty]; · iexact Hty
    isplitl [HB]
    · rw [payload_barY]
      iapply (pay_y c)
      isplitl [HB]; · iexact HB
      isplitr; · iexact HR
      iexact HE
    iexact HrY
  iintro HO
  iapply (load_kb m c 0 rfl)
  isplitl [HS]; · iexact HS
  iintro HS
  iapply (load_kAny c 0 rfl)
  isplitl [Hk0]; · iexact Hk0
  iintro %_ Hk0
  iapply (store_k m c 0 rfl rfl)
  isplitl [Hk0]; · iexact Hk0
  iintro Hk0
  rw [wp_ret]; imodintro
  iapply Hk
  isplitl [Hk0]; · iexact Hk0
  isplitl [HS]; · iexact HS
  iexact HO

theorem part_2 (K : GSem nD τ sig → ℕ) (c : Dev nD) (v5 v9 : BitVec 32) (Kt) :
    iprop((InvB m K c ∗ levAts L lv ∗ kReg m c (bat 0 0) c ∗ vAny c (bat 0 0) ∗ kAny c (bat 0 1) ∗ vAny c (bat 0 1)
        ∗ StgI m c ∗ (∃ W, owes (c : Thread nD τ) (owM c Finset.univ Finset.univ) W) ∗ atPos ER (barC c) 0 ∅ 0 ∗ cred (tallyAt (barC c) () 2))
      ∗ (∀ w47 : BitVec 32, ∀ w48 : BitVec 32,
          ((kReg m c (bat 0 0) c ∗ vReg m c (bat 0 0) c) ∗ (kReg m c (bat 0 1) c ∗ vReg m c (bat 0 1) c) ∗ StgI m c
            ∗ (∃ W, owes (c : Thread nD τ) (owM c Finset.univ Finset.univ) W) ∗ atPos ER (barC c) (0 + 1) ∅ 0 ∗ barPayX c ∗ barPayY c) -∗ Kt ⟨w47, w48⟩))
      ⊢ wp frame (wpE (defs₀ (F := F)) 𝒱₀ (c : Thread nD τ) none) Set.univ (k0_part2 (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6 v5 v9 (SemArray.scalar (sig.barrier 0 rfl))) Kt := by
  rw [k0_part2_eq_skeleton]; unfold k0_part2_skel
  simp only [semSignalWord, semWaitWord, Prog.lift, Prog.bind_op, Prog.bind_ret, Prog.pure_eq_ret]
  unfold InvB
  iintro ⟨⟨⟨#HI, #-⟩, #HL, Hk0, Hv0, Hk1, Hv1, HS, HO, Ha, Hc⟩, Hk⟩
  iapply (load_vb m c 0 rfl)
  isplitl [HS]; · iexact HS
  iintro HS
  iapply (load_vAny c 0 rfl)
  isplitl [Hv0]; · iexact Hv0
  iintro %_ Hv0
  iapply (store_v m c 0 rfl rfl)
  isplitl [Hv0]; · iexact Hv0
  iintro Hv0
  iapply (load_kb m c 1 rfl)
  isplitl [HS]; · iexact HS
  iintro HS
  iapply (load_kAny c 1 rfl)
  isplitl [Hk1]; · iexact Hk1
  iintro %_ Hk1
  iapply (store_k m c 1 rfl rfl)
  isplitl [Hk1]; · iexact Hk1
  iintro Hk1
  iapply (load_vb m c 1 rfl)
  isplitl [HS]; · iexact HS
  iintro HS
  iapply (load_vAny c 1 rfl)
  isplitl [Hv1]; · iexact Hv1
  iintro %_ Hv1
  iapply (store_v m c 1 rfl rfl)
  isplitl [Hv1]; · iexact Hv1
  iintro Hv1
  iapply (wait_two m K c barS (owM c Finset.univ Finset.univ) 1 (by rw [lvS_bar]) (above_owM c _ _)) $$ [HO Ha Hc]
  · isplitr; · iexact HI
    isplitr; · iexact HL
    isplitl [HO]; · iexact HO
    isplitl [Ha]; · iexact Ha
    iexact Hc
  rw [rest_bar]
  iintro ⟨HO, Ha, HX, HY⟩
  rw [wp_ret]; imodintro
  iapply Hk
  isplitl [Hk0 Hv0]
  · isplitl [Hk0]; · iexact Hk0
    iexact Hv0
  isplitl [Hk1 Hv1]
  · isplitl [Hk1]; · iexact Hk1
    iexact Hv1
  isplitl [HS]; · iexact HS
  isplitl [HO]; · iexact HO
  isplitl [Ha]; · iexact Ha
  isplitl [HX]; · iexact HX
  iexact HY

end Cert.Attn

end
-- ==== Proof.Body.lean ====
/-
The kernel's run on one device: its parts in order, the last handshake, and every semaphore back at zero.
-/
module

public import proofs.«01_k».proof.Proof.Enter

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The state before and after -/

/-- What the exchange takes: invariants, levels, each chunk's pieces, the barrier's and the last handshake's. -/
def Start (K : GSem nD τ sig → ℕ) (c : Dev nD) : sProp 𝕄 :=
  iprop((bigSep Finset.univ fun ch => InvCh m K c ch) ∗ InvB m K c ∗ levAts L lv ∗ (bigSep Finset.univ fun ch => RchedCh c ch) ∗ reached ER (exC c) 0
    ∗ (bigSep Finset.univ fun ch => LinCh c ch)
    ∗ (atPos ER (barC c) 0 ∅ 0 ∗ dutyTok ER (barC (xp c)) 0 false ∗ dutyTok ER (barC (yp c)) 0 true ∗ cred (tallyAt (barC c) () 2))
    ∗ (atPos ER (exC c) 0 ∅ 0 ∗ dutyTok ER (exC (xp c)) 0 false ∗ dutyTok ER (exC (yp c)) 0 true ∗ cred (tallyAt (exC c) () 2)))

/-- A chunk's semaphores at zero. -/
def ZeroCh (c : Dev nD) (ch : Ch) : sProp 𝕄 :=
  iprop(semVal (dC c (sx ch)) 0 ∗ semVal (dC c (rx ch)) 0 ∗ semVal (dC c (sf ch)) 0 ∗ semVal (dC c (rf ch)) 0)
/-- Every semaphore of the kernel at zero. -/
def Zero (c : Dev nD) : sProp 𝕄 := iprop((bigSep Finset.univ fun ch => ZeroCh c ch) ∗ semVal (exC c) 0 ∗ semVal (barC c) 0)

theorem close_one (κ : ℕ) (g : GSem nD τ sig) : iprop(cellInv ER (Rd m) κ g ∗ atPos ER g (0 + 1) ∅ 0) ⊢ (|={Set.univ}=> semVal g 0 : sProp 𝕄) :=
  Rounds.cell_close ER (Rd m) (Set.mem_univ κ) (fun h => h) (duties_later m g)

theorem close_ch (K : GSem nD τ sig → ℕ) (c : Dev nD) (ch : Ch) :
    iprop(PersCh m K c ch ∗ (a₁ c (rx ch) ∗ a₁ c (sx ch) ∗ a₁ c (sf ch) ∗ a₁ c (rf ch))) ⊢ (|={Set.univ}=> ZeroCh c ch : sProp 𝕄) := by
  unfold PersCh ZeroCh
  iintro ⟨⟨I1, I2, I3, I4, -⟩, A2, A1, A3, A4⟩
  imod (close_one m _ (dC c (sx ch))) $$ [I1 A1] with H1
  · isplitl [I1]; · iexact I1
    iexact A1
  imod (close_one m _ (dC c (rx ch))) $$ [I2 A2] with H2
  · isplitl [I2]; · iexact I2
    iexact A2
  imod (close_one m _ (dC c (sf ch))) $$ [I3 A3] with H3
  · isplitl [I3]; · iexact I3
    iexact A3
  imod (close_one m _ (dC c (rf ch))) $$ [I4 A4] with H4
  · isplitl [I4]; · iexact I4
    iexact A4
  imodintro
  isplitl [H1]; · iexact H1
  isplitl [H2]; · iexact H2
  isplitl [H3]; · iexact H3
  iexact H4

theorem close_all (K : GSem nD τ sig → ℕ) (c : Dev nD) :
    iprop((bigSep Finset.univ fun ch => PersCh m K c ch) ∗ (bigSep Finset.univ fun ch : Ch => iprop(a₁ c (rx ch) ∗ a₁ c (sx ch) ∗ a₁ c (sf ch) ∗ a₁ c (rf ch))))
      ⊢ (|={Set.univ}=> bigSep Finset.univ fun ch => ZeroCh c ch : sProp 𝕄) := by
  rw [← bigSep_sep']
  exact BIBase.Entails.trans (bigSep_mono fun ch _ => close_ch m K c ch) (bigSep_fupd Finset.univ _)

/-- One half and the other, back in order. -/
theorem other_own (c : Dev nD) (Φ : ℕ → sProp 𝕄) : iprop(Φ (yb c) ∗ Φ (1 - yb c)) ⊢ iprop(Φ 0 ∗ Φ 1) := by
  rcases (show yb c = 0 ∨ yb c = 1 by have := yb_lt c; omega) with e | e <;> rw [e]
  iintro ⟨H0, H1⟩
  isplitl [H1]; · iexact H1
  iexact H0

/-- The second slots, cut into the pieces the two partners fill. -/
theorem slots_cut (c : Dev nD) :
    iprop((kAny c (bat 1 0) ∗ kAny c (bat 1 1)) ∗ (vAny c (bat 1 0) ∗ vAny c (bat 1 1)))
      ⊢ (iprop((bigSep Finset.univ fun ch : Ch => cAny c ch 1 (yb c)) ∗ (bigSep Finset.univ fun ch : Ch => cAny c ch 1 (1 - yb c))) : sProp 𝕄) := by
  iintro ⟨⟨K0, K1⟩, V0, V1⟩
  ihave ⟨⟨A, B⟩, C, D⟩ := (own_other (F := F) c fun b => iprop(kAny c (bat 1 b) ∗ vAny c (bat 1 b))) $$ [K0 K1 V0 V1]
  · isplitl [K0 V0]
    · isplitl [K0]; · iexact K0
      iexact V0
    isplitl [K1]; · iexact K1
    iexact V1
  isplitl [A B]
  · iapply (cAny_split c 1 (yb c))
    isplitl [A]; · iexact A
    iexact B
  iapply (cAny_split c 1 (1 - yb c))
  isplitl [C]; · iexact C
  iexact D

/-- The buffers back whole. -/
theorem slots_back (c : Dev nD) :
    iprop(Got m c ∗ (kReg m c (bat 0 (yb c)) c ∗ vReg m c (bat 0 (yb c)) c) ∗ (kReg m c (bat 0 (1 - yb c)) c ∗ vReg m c (bat 0 (1 - yb c)) c))
      ⊢ (iprop(kAny c Finset.univ ∗ vAny c Finset.univ) : sProp 𝕄) := by
  unfold Got
  iintro ⟨⟨⟨K0, V0⟩, K1, V1⟩, ⟨A, B⟩, C, D⟩
  ihave ⟨⟨A, B⟩, C, D⟩ := (other_own (F := F) c fun b => iprop(kReg m c (bat 0 b) c ∗ vReg m c (bat 0 b) c)) $$ [A B C D]
  · isplitl [A B]
    · isplitl [A]; · iexact A
      iexact B
    isplitl [C]; · iexact C
    iexact D
  ihave K0 := (kReg_any m c (bat 1 0) _) $$ K0
  ihave K1 := (kReg_any m c (bat 1 1) _) $$ K1
  ihave V0 := (vReg_any m c (bat 1 0) _) $$ V0
  ihave V1 := (vReg_any m c (bat 1 1) _) $$ V1
  ihave A := (kReg_any m c (bat 0 0) _) $$ A
  ihave C := (kReg_any m c (bat 0 1) _) $$ C
  ihave B := (vReg_any m c (bat 0 0) _) $$ B
  ihave D := (vReg_any m c (bat 0 1) _) $$ D
  isplitl [K0 K1 A C]
  · iapply (kAny_whole_join c)
    isplitl [A C]
    · isplitl [A]; · iexact A
      iexact C
    isplitl [K0]; · iexact K0
    iexact K1
  iapply (vAny_whole_join c)
  isplitl [B D]
  · isplitl [B]; · iexact B
    iexact D
  isplitl [V0]; · iexact V0
  iexact V1

/-- From the barrier on: the exchange's pieces put together. -/
theorem mid_enter (K : GSem nD τ sig → ℕ) (c : Dev nD) :
    iprop((bigSep Finset.univ fun ch => InvCh m K c ch) ∗ (bigSep Finset.univ fun ch => RchedCh c ch) ∗ levAts L lv
        ∗ (bigSep Finset.univ fun ch => LinCh c ch) ∗ (kReg m c (bat 0 0) c ∗ vReg m c (bat 0 0) c) ∗ (kReg m c (bat 0 1) c ∗ vReg m c (bat 0 1) c)
        ∗ barPayX c ∗ barPayY c ∗ ∃ W, owes (c : Thread nD τ) (owM c Finset.univ Finset.univ) W)
      ⊢ iprop(Mid m K c ![0, 0, 0, 0, 0, 0, 0, 0] ∗ (kReg m c (bat 0 (1 - yb c)) c ∗ vReg m c (bat 0 (1 - yb c)) c)
        ∗ reached ER (exC (xp c)) 0 ∗ reached ER (exC (yp c)) 0) := by
  unfold barPayX barPayY
  rw [bigSep_sep', bigSep_sep']
  iintro ⟨HI, HR, HL, Hl, HA, HB, ⟨⟨X, Xr⟩, Ex⟩, ⟨⟨Y, Yr⟩, Ey⟩, HO⟩
  ihave ⟨⟨A, B⟩, C, D⟩ := (own_other (F := F) c fun b => iprop(kReg m c (bat 0 b) c ∗ vReg m c (bat 0 b) c)) $$ [HA HB]
  · isplitl [HA]; · iexact HA
    iexact HB
  isplitr [C D Ex Ey]
  · iapply (mid_intro m K c)
    isplitl [HI]; · iexact HI
    isplitl [HR]; · iexact HR
    isplitl [Xr]; · iexact Xr
    isplitl [Yr]; · iexact Yr
    isplitl [HL]; · iexact HL
    isplitl [Hl]; · iexact Hl
    isplitl [A B]
    · iapply (cReg_split m c 0 (yb c) c)
      isplitl [A]; · iexact A
      iexact B
    isplitl [X]; · iexact X
    isplitl [Y]; · iexact Y
    iexact HO
  isplitl [C D]
  · isplitl [C]; · iexact C
    iexact D
  isplitl [Ex]; · iexact Ex
  iexact Ey

/-! ## The body -/

set_option maxRecDepth 20000 in
set_option maxHeartbeats 4000000 in
theorem body_run (K : GSem nD τ sig → ℕ) (c : Dev nD) :
    iprop(Start m K c ∗ (kAny c Finset.univ ∗ vAny c Finset.univ) ∗ StgI m c ∗ outP m c 0 ∗ ∃ W, owes (c : Thread nD τ) (O₀ c) W)
      ⊢ wp frame (wpE (defs₀ (F := F)) 𝒱₀ (c : Thread nD τ) none) Set.univ (cc0_body (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6)
          (fun _ => iprop(Zero c ∗ (kAny c Finset.univ ∗ vAny c Finset.univ) ∗ StgI m c ∗ outP m c 16 ∗ ∃ W, owes (c : Thread nD τ) 0 W)) := by
  unfold cc0_body k0_part41 Start
  iintro ⟨⟨#HIC, #HIB, #HL, #HR, #HE, Hl, ⟨Ba, Bx, By, Bc⟩, ⟨Ea, Ex, Ey, Ec⟩⟩, ⟨HK, HV⟩, HS, Ho, HO⟩
  ihave ⟨⟨K00, K01⟩, K10, K11⟩ := (kAny_whole c) $$ HK
  ihave ⟨⟨V00, V01⟩, V10, V11⟩ := (vAny_whole c) $$ HV
  ihave ⟨HA, HB⟩ := (slots_cut c) $$ [K10 K11 V10 V11]
  · isplitl [K10 K11]
    · isplitl [K10]; · iexact K10
      iexact K11
    isplitl [V10]; · iexact V10
    iexact V11
  rw [wp_bind]
  rw [wp_bind]; iapply (part_1 m K c)
  isplitl [Bx By HA HB K00 HS HO]
  · isplitr; · iexact HIB
    isplitr; · iexact HR
    isplitr; · iexact HE
    isplitl [Bx By]
    · isplitl [Bx]; · iexact Bx
      iexact By
    isplitl [HA]; · iexact HA
    isplitl [HB]; · iexact HB
    isplitl [K00]; · iexact K00
    isplitl [HS]; · iexact HS
    iexact HO
  iintro %_ %_ %_ %_ %_ ⟨K00, HS, HO⟩
  rw [wp_bind]; iapply (part_2 m K c)
  isplitl [K00 V00 K01 V01 HS HO Ba Bc]
  · isplitr; · iexact HIB
    isplitr; · iexact HL
    isplitl [K00]; · iexact K00
    isplitl [V00]; · iexact V00
    isplitl [K01]; · iexact K01
    isplitl [V01]; · iexact V01
    isplitl [HS]; · iexact HS
    isplitl [HO]; · iexact HO
    isplitl [Ba]; · iexact Ba
    iexact Bc
  iintro %_ %_ ⟨HA, HB, HS, HO, Ba, PX, PY⟩
  ihave ⟨HM, HOth, #Rx, #Ry⟩ := (mid_enter m K c) $$ [Hl HA HB PX PY HO]
  · isplitr; · iexact HIC
    isplitr; · iexact HR
    isplitr; · iexact HL
    isplitl [Hl]; · iexact Hl
    isplitl [HA]; · iexact HA
    isplitl [HB]; · iexact HB
    isplitl [PX]; · iexact PX
    isplitl [PY]; · iexact PY
    iexact HO
  rw [wp_bind]; iapply (part_3 m K c _ _ _ _ _)
  isplitl [HM]; · iexact HM
  iintro %_ %_ HM
  rw [wp_bind]; iapply (part_4 m K c _ _ _ _ _)
  isplitl [HM]; · iexact HM
  iintro HM
  rw [wp_bind]; iapply (part_5 m K c _ _ _)
  isplitl [HM]; · iexact HM
  iintro HM
  rw [wp_bind]; iapply (part_6 m K c _ _ _)
  isplitl [HM HS]
  · isplitl [HM]; · iexact HM
    iexact HS
  iintro ⟨HM, HS⟩
  rw [wp_bind]; iapply (part_7 m c _ _ _ _ _)
  isplitl [HS]; · iexact HS
  iintro HS
  rw [wp_bind]; iapply (part_8 m K c _ _ _)
  isplitl [HM HS]
  · isplitl [HM]; · iexact HM
    iexact HS
  iintro ⟨HM, HS⟩
  rw [wp_bind]; iapply (part_9 m c _ _ _ _ _ _ _)
  isplitl [HS]; · iexact HS
  iintro HS
  rw [wp_bind]; iapply (part_10 m K c _ _ _)
  isplitl [HM HS]
  · isplitl [HM]; · iexact HM
    iexact HS
  iintro ⟨HM, HS⟩
  rw [wp_bind]; iapply (part_11 m c _ _ _ _ _ _)
  isplitl [HS]; · iexact HS
  iintro HS
  rw [wp_bind]; iapply (part_12 m K c _ _ _)
  isplitl [HM HS]
  · isplitl [HM]; · iexact HM
    iexact HS
  iintro ⟨HM, HS⟩
  rw [wp_bind]; iapply (part_13 m K c _ _ _)
  isplitl [HM HS]
  · isplitl [HM]; · iexact HM
    iexact HS
  iintro ⟨HM, HS⟩
  rw [wp_bind]; iapply (part_14 m K c _ _ _)
  isplitl [HM HS]
  · isplitl [HM]; · iexact HM
    iexact HS
  iintro ⟨HM, HS⟩
  rw [wp_bind]; iapply (part_15 m K c _ _ _ _)
  isplitl [HM HS]
  · isplitl [HM]; · iexact HM
    iexact HS
  iintro %_ %_ ⟨HM, HS⟩
  rw [wp_bind]; iapply (part_16 m K c _ _ _ _)
  isplitl [HM HS]
  · isplitl [HM]; · iexact HM
    iexact HS
  iintro ⟨HM, HS⟩
  rw [wp_bind]; iapply (part_17 m K c _ _ _ _ _ _ _)
  isplitl [HM HS]
  · isplitl [HM]; · iexact HM
    iexact HS
  iintro %_ ⟨HM, HS⟩
  rw [wp_bind]; iapply (part_18 m K c _ _)
  isplitl [HM HS]
  · isplitl [HM]; · iexact HM
    iexact HS
  iintro ⟨HM, HS⟩
  rw [wp_bind]; iapply (part_19 m K c _ _ _ _ _ _)
  isplitl [HM HS]
  · isplitl [HM]; · iexact HM
    iexact HS
  iintro ⟨HM, HS⟩
  rw [wp_bind]; iapply (part_20 m K c)
  isplitl [HM HS]
  · isplitl [HM]; · iexact HM
    iexact HS
  iintro ⟨HM, HS⟩
  rw [wp_bind]; iapply (part_21 m K c _ _ _ _ _ _ _)
  isplitl [HM HS]
  · isplitl [HM]; · iexact HM
    iexact HS
  iintro ⟨HM, HS⟩
  rw [wp_bind]; iapply (part_22 m K c _ _ _)
  isplitl [HM]; · iexact HM
  iintro HM
  rw [wp_bind]; iapply (part_23 m K c _ _)
  isplitl [HM]; · iexact HM
  iintro %_ HM
  rw [wp_bind]; iapply (part_24 m K c _ _ _)
  isplitl [HM]; · iexact HM
  iintro %_ HM
  rw [wp_bind]; iapply (part_25 m K c _ _ _)
  isplitl [HM]; · iexact HM
  iintro %_ HM
  rw [wp_bind]; iapply (part_26 m K c _ _ _ _)
  isplitl [HM]; · iexact HM
  iintro HM
  rw [wp_bind]; iapply (part_27 m K c _ _ _)
  isplitl [HM]; · iexact HM
  iintro HM
  rw [wp_bind]; iapply (part_28 m K c _ _ _)
  isplitl [HM]; · iexact HM
  iintro HM
  rw [wp_bind]; iapply (part_29 m K c _ _ _)
  isplitl [HM]; · iexact HM
  iintro HM
  rw [wp_bind]; iapply (part_30 m K c _ _ _ _ _ _)
  isplitl [HM]; · iexact HM
  iintro ⟨HG, HF⟩
  rw [wp_bind]; iapply (part_31 m c _ _ _ _ _ rfl rfl)
  isplitl [HG Ho]
  · isplitl [HG]; · iexact HG
    iexact Ho
  iintro ⟨HG, Ho⟩
  rw [wp_bind]; iapply (part_32 m c _ _ _ _ _ _ _ rfl)
  isplitl [HG Ho]
  · isplitl [HG]; · iexact HG
    iexact Ho
  iintro ⟨HG, Ho⟩
  rw [wp_bind]; iapply (part_33 m c _ _ _ _ _ rfl rfl)
  isplitl [HG Ho]
  · isplitl [HG]; · iexact HG
    iexact Ho
  iintro ⟨HG, Ho⟩
  rw [wp_bind]; iapply (part_34 m c _ _ _ _ _ _ _ rfl)
  isplitl [HG Ho]
  · isplitl [HG]; · iexact HG
    iexact Ho
  iintro ⟨HG, Ho⟩
  rw [wp_bind]; iapply (part_35 m c _ _ _ _ rfl rfl)
  isplitl [HG Ho]
  · isplitl [HG]; · iexact HG
    iexact Ho
  iintro ⟨HG, Ho⟩
  rw [wp_bind]; iapply (part_36 m c _ _ _ _ _ _ _ _ rfl)
  isplitl [HG Ho]
  · isplitl [HG]; · iexact HG
    iexact Ho
  iintro ⟨HG, Ho⟩
  rw [wp_bind]; iapply (part_37 m c _ _ _ _ _ rfl rfl)
  isplitl [HG Ho]
  · isplitl [HG]; · iexact HG
    iexact Ho
  iintro ⟨HG, Ho⟩
  rw [wp_bind]; iapply (part_38 m c _ _ _ _ _ _ _ rfl)
  isplitl [HG Ho]
  · isplitl [HG]; · iexact HG
    iexact Ho
  iintro ⟨HG, Ho⟩
  rw [wp_bind]; iapply (part_39 m c _ _ _ _ _ rfl rfl)
  isplitl [HG Ho]
  · isplitl [HG]; · iexact HG
    iexact Ho
  iintro ⟨HG, Ho⟩
  rw [wp_bind]; iapply (part_40 m c _ _ _ _ _ _ _ _ rfl rfl)
  isplitl [HG Ho]
  · isplitl [HG]; · iexact HG
    iexact Ho
  iintro %_ ⟨HG, Ho⟩
  unfold Fin6
  icases HF with ⟨HP, #-, HOwn, Ha, HO⟩
  rw [owM_nil]
  simp only [semSignalWord, semWaitWord, Prog.lift, Prog.bind_op, Prog.bind_ret, Prog.pure_eq_ret]
  unfold InvB
  icases HIB with ⟨#IB, #-, #-, #IE, #IEx, #IEy, #-, #-⟩
  iapply (signal_one m K c (xp c) _ (Fin.ext ((k0_dev19_eq c).trans (dev_x c))) exS false _ (tallyAt (exC (yp c)) () 1) rfl) $$ [HO Ex]
  · isplitr; · iexact IEx
    isplitl [HO]; · iexact HO
    isplitl [Ex]; · iexact Ex
    isplitr
    · rw [payload_ex]; iempintro
    iexact Rx
  iintro HO
  rw [wp_ret]; imodintro
  iapply (signal_one m K c (yp c) _ (Fin.ext ((k0_dev20_eq c).trans (dev_y c))) exS true _ 0 (zero_add _).symm) $$ [HO Ey]
  · isplitr; · iexact IEy
    isplitl [HO]; · iexact HO
    isplitl [Ey]; · iexact Ey
    isplitr
    · rw [payload_ex]; iempintro
    iexact Ry
  iintro HO
  iapply (wait_two m K c exS 0 4 (by rw [lvS_ex]) (above_zero _)) $$ [HO Ea Ec]
  · isplitr; · iexact IE
    isplitr; · iexact HL
    isplitl [HO]; · iexact HO
    isplitl [Ea]; · iexact Ea
    iexact Ec
  iintro ⟨HO, Ea, -⟩
  rw [wp_ret]
  imod (close_all m K c) $$ [HP Ha] with HZ
  · isplitl [HP]; · iexact HP
    iexact Ha
  imod (close_one m _ (exC c)) $$ [Ea] with HZe
  · isplitr; · iexact IE
    iexact Ea
  imod (close_one m _ (barC c)) $$ [Ba] with HZb
  · isplitr; · iexact IB
    iexact Ba
  imodintro
  isplitl [HZ HZe HZb]
  · unfold Zero
    isplitl [HZ]; · iexact HZ
    isplitl [HZe]; · iexact HZe
    iexact HZb
  isplitl [HG HOwn HOth]
  · iapply (slots_back m c)
    isplitl [HG]; · iexact HG
    isplitl [HOwn]; · iexact HOwn
    iexact HOth
  isplitl [HS]; · iexact HS
  isplitl [Ho]; · iexact Ho
  iexact HO

end Cert.Attn

end
-- ==== Proof.Region.lean ====
/-
The kernel call as a step of the program: its arrays, what its body needs and leaves, its semaphores opened at entry
and closed at exit.
-/
module

public import proofs.«01_k».proof.Proof.Body
public import Idealize.ShloMosaic.Lib.Pipeline.Covers

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- Four per chunk, and that of the last handshake. -/
def osem : (Ch × Fin 4) ⊕ Unit → SemLoc sig
  | .inl (ch, 0) => .dma (sx ch)
  | .inl (ch, 1) => .dma (rx ch)
  | .inl (ch, 2) => .dma (sf ch)
  | .inl (ch, 3) => .dma (rf ch)
  | .inr () => .reg exS

theorem osem_facts : Pipeline.OwnSemFacts spec0 osem := by decide +kernel

omit [FloatOps F] in
/-- Something of each of them, chunk by chunk. -/
theorem over_osem (Φ : SemLoc sig → sProp 𝕄) : (bigSep Finset.univ fun k => Φ (osem k))
    = iprop((bigSep Finset.univ fun ch : Ch => iprop(Φ (.dma (sx ch)) ∗ Φ (.dma (rx ch)) ∗ Φ (.dma (sf ch)) ∗ Φ (.dma (rf ch)))) ∗ Φ (.reg exS)) := by
  rw [bigSep_univ_sum, bigSep_univ_prod, show (Finset.univ : Finset Unit) = {()} from rfl, bigSep_singleton]
  rw [bigSep_congr fun ch _ => bigSep_four (F := F) (fun k => Φ (osem (.inl (ch, k))))]
  rfl

omit [FloatOps F] in
theorem ownSems_eq (c : Dev nD) : (Pipeline.ownSems0 osem c : sProp 𝕄)
    = iprop((bigSep Finset.univ fun ch : Ch => ZeroCh c ch) ∗ semVal (exC c) 0) :=
  over_osem (F := F) fun s => semVal ((c : Thread nD τ), s) 0

/-! ## Opening them -/

/-- The right to open a chunk's four. -/
def OpenCh (c : Dev nD) (ch : Ch) : sProp 𝕄 :=
  iprop(openTok ER (dC c (sx ch)) ∗ openTok ER (dC c (rx ch)) ∗ openTok ER (dC c (sf ch)) ∗ openTok ER (dC c (rf ch)))
/-- A chunk's tokens and credits. -/
def TokCh (c : Dev nD) (ch : Ch) : sProp 𝕄 :=
  iprop(tk c (sx ch) ∗ tk (xp c) (rx ch) ∗ tk c (sf ch) ∗ tk (yp c) (rf ch))
def CredCh (c : Dev nD) (ch : Ch) : sProp 𝕄 := iprop(cr c (rx ch) ch ∗ cr c (rf ch) ch)

/-- The tokens of the barrier and of the last handshake. -/
def TokB (c : Dev nD) : sProp 𝕄 :=
  iprop(dutyTok ER (barC (xp c)) 0 false ∗ dutyTok ER (barC (yp c)) 0 true ∗ dutyTok ER (exC (xp c)) 0 false ∗ dutyTok ER (exC (yp c)) 0 true)

/-- What the launch keeps for the kernel: the invariants, its position at the barrier, the rights to open, the tokens; -/
def Gh (K : GSem nD τ sig → ℕ) (c : Dev nD) : sProp 𝕄 :=
  iprop((bigSep Finset.univ fun ch => InvCh m K c ch) ∗ InvB m K c ∗ atPos ER (barC c) 0 ∅ 0
    ∗ ((bigSep Finset.univ fun ch : Ch => OpenCh c ch) ∗ openTok ER (exC c)) ∗ ((bigSep Finset.univ fun ch : Ch => TokCh c ch) ∗ TokB c))
/-- the credits. -/
def Cr (c : Dev nD) : sProp 𝕄 :=
  iprop(cred (tallyAt (barC c) () 2) ∗ cred (tallyAt (exC c) () 2) ∗ bigSep Finset.univ fun ch : Ch => CredCh c ch)
def Tk (c : Dev nD) : sProp 𝕄 := iprop((∃ K, Gh m K c) ∗ Cr c)
def Xk (c : Dev nD) : sProp 𝕄 := iprop(∃ K, Start m K c)
def Yk (c : Dev nD) : sProp 𝕄 := semVal (barC c) 0

theorem open_one (κ : ℕ) (g : GSem nD τ sig) :
    iprop(cellInv ER (Rd m) κ g ∗ openTok ER g ∗ semVal g 0) ⊢ (|={Set.univ}=> iprop(atPos ER g 0 ∅ 0 ∗ reached ER g 0) : sProp 𝕄) :=
  Rounds.cell_open ER (Rd m) (g := g) (Set.mem_univ κ)

theorem open_ch (K : GSem nD τ sig → ℕ) (c : Dev nD) (ch : Ch) :
    iprop(InvCh m K c ch ∗ OpenCh c ch ∗ ZeroCh c ch ∗ TokCh c ch ∗ CredCh c ch) ⊢ (|={Set.univ}=> iprop(RchedCh c ch ∗ LinCh c ch) : sProp 𝕄) := by
  unfold InvCh OpenCh ZeroCh TokCh CredCh RchedCh LinCh
  iintro ⟨⟨I1, I2, I3, I4, -⟩, ⟨O1, O2, O3, O4⟩, ⟨Z1, Z2, Z3, Z4⟩, HT, HC⟩
  imod (open_one m _ (dC c (sx ch))) $$ [I1 O1 Z1] with ⟨A1, R1⟩
  · isplitl [I1]; · iexact I1
    isplitl [O1] <;> iassumption
  imod (open_one m _ (dC c (rx ch))) $$ [I2 O2 Z2] with ⟨A2, R2⟩
  · isplitl [I2]; · iexact I2
    isplitl [O2] <;> iassumption
  imod (open_one m _ (dC c (sf ch))) $$ [I3 O3 Z3] with ⟨A3, R3⟩
  · isplitl [I3]; · iexact I3
    isplitl [O3] <;> iassumption
  imod (open_one m _ (dC c (rf ch))) $$ [I4 O4 Z4] with ⟨A4, R4⟩
  · isplitl [I4]; · iexact I4
    isplitl [O4] <;> iassumption
  imodintro
  isplitl [R1 R2 R3 R4]
  · isplitl [R1]; · iexact R1
    isplitl [R2]; · iexact R2
    isplitl [R3] <;> iassumption
  isplitl [A1 A2 A3 A4]
  · isplitl [A1]; · iexact A1
    isplitl [A2]; · iexact A2
    isplitl [A3] <;> iassumption
  isplitl [HT]; · iexact HT
  iexact HC

theorem hopen (c : Dev nD) : iprop(Tk m c ∗ Pipeline.ownSems0 osem c ∗ levAts L lv) ⊢ (|={Set.univ}=> Xk m c : sProp 𝕄) := by
  rw [ownSems_eq]
  unfold Tk Gh Cr Xk TokB
  iintro ⟨⟨⟨%K, ⟨#HIC, #HIB, Ba, ⟨HO, OE⟩, HT, Bx, By, Ex, Ey⟩⟩, Bc, Ec, HC⟩, ⟨HZ, ZE⟩, HL⟩
  ihave HM := (show iprop((bigSep Finset.univ fun ch => InvCh m K c ch) ∗ (bigSep Finset.univ fun ch : Ch => OpenCh c ch)
      ∗ (bigSep Finset.univ fun ch : Ch => ZeroCh c ch) ∗ (bigSep Finset.univ fun ch : Ch => TokCh c ch) ∗ (bigSep Finset.univ fun ch : Ch => CredCh c ch))
      ⊢ (|={Set.univ}=> bigSep Finset.univ fun ch : Ch => iprop(RchedCh c ch ∗ LinCh c ch) : sProp 𝕄) from by
    rw [← bigSep_sep', ← bigSep_sep', ← bigSep_sep', ← bigSep_sep']
    exact (bigSep_mono fun ch _ => open_ch m K c ch).trans (bigSep_fupd _ _)) $$ [HO HZ HT HC]
  · isplitr; · iexact HIC
    isplitl [HO]; · iexact HO
    isplitl [HZ]; · iexact HZ
    isplitl [HT]; · iexact HT
    iexact HC
  imod HM
  ihave ⟨HR, Hl⟩ := (show (bigSep Finset.univ fun ch : Ch => iprop(RchedCh c ch ∗ LinCh c ch))
      ⊢ iprop((bigSep Finset.univ fun ch : Ch => RchedCh c ch) ∗ (bigSep Finset.univ fun ch : Ch => LinCh c ch) : sProp 𝕄) from by
    rw [bigSep_sep']) $$ HM
  unfold InvB
  icases HIB with ⟨#I1, #I2, #I3, #I4, #I5, #I6, #R1, #R2⟩
  imod (open_one m _ (exC c)) $$ [OE ZE] with ⟨Ea, RE⟩
  · isplitr; · iexact I4
    isplitl [OE] <;> iassumption
  imodintro
  iexists K
  unfold Start
  isplitr; · iexact HIC
  isplitr
  · unfold InvB
    isplitr; · iexact I1
    isplitr; · iexact I2
    isplitr; · iexact I3
    isplitr; · iexact I4
    isplitr; · iexact I5
    isplitr; · iexact I6
    isplitr; · iexact R1
    iexact R2
  isplitl [HL]; · iexact HL
  isplitl [HR]; · iexact HR
  isplitl [RE]; · iexact RE
  isplitl [Hl]; · iexact Hl
  isplitl [Ba Bx By Bc]
  · isplitl [Ba]; · iexact Ba
    isplitl [Bx]; · iexact Bx
    isplitl [By] <;> iassumption
  isplitl [Ea]; · iexact Ea
  isplitl [Ex]; · iexact Ex
  isplitl [Ey] <;> iassumption

/-! ## The call -/

/-- The call's data: its arrays as it finds them, the staging buffers as its body leaves them, what the body needs
    and leaves besides, what the device owes before and after. -/
def dats (_ : Fin 1) (c : Dev nD) : Dat τ (Elt F) Unit ℕ UU ℕ cfg0 c where
  A w := V m c (Pipeline.arrRef spec0 w)
  after w _ := match w with
    | ⟨0, _⟩ => qst m c
    | ⟨1, _⟩ => kst m c
    | ⟨2, _⟩ => vst m c
    | ⟨3, _⟩ => oImg m c
    | ⟨_ + 4, h⟩ => absurd h (Nat.not_lt.2 (Nat.le_add_left _ _))
  Φ t := match t with
    | ⟨0, _⟩ => iprop(Xk m c ∗ (kAny c Finset.univ ∗ vAny c Finset.univ) ∗ ∃ r, prngReg c r)
    | ⟨_ + 1, _⟩ => iprop(Zero c ∗ (kAny c Finset.univ ∗ vAny c Finset.univ) ∗ ∃ r, prngReg c r)
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owesAt_in (c : Dev nD) (t : Fin (cfg0.N + 1)) : (dats m 0 c).owesAt () t ⊢ iprop(∃ W, owes (c : Thread nD τ) ((dats m 0 c).owed t) W) := by
  unfold Dat.owesAt Pipeline.owesWithin
  iintro ⟨%W, -, HO⟩; iexists W; iexact HO
theorem owesAt_out (c : Dev nD) (t : Fin (cfg0.N + 1)) : iprop(∃ W, owes (c : Thread nD τ) ((dats m 0 c).owed t) W) ⊢ (dats m 0 c).owesAt () t := by
  unfold Dat.owesAt Pipeline.owesWithin Dat.bound
  iintro ⟨%W, HO⟩; iexists W
  isplitr; · ipureintro; exact fun _ _ => Or.inl trivial
  iexact HO

theorem before_0 (c : Dev nD) (d) : (dats m 0 c).before 0 t0_0 d = qst m c := by
  unfold Dat.before; rw [if_pos (fetch0_0 t0_0)]
  funext y
  refine congrArg (qst m c) (show ((cfg0.win 0).blk t0_0).view.emb y = y from funext fun a => Fin.ext ?_)
  exact (congrArg (· + 1 * (y a).val) (Nat.zero_mul _)).trans ((Nat.zero_add _).trans (Nat.one_mul _))
theorem before_1 (c : Dev nD) (d) : (dats m 0 c).before 1 t0_0 d = kst m c := by
  unfold Dat.before; rw [if_pos (fetch0_1 t0_0)]
  funext y
  refine congrArg (kst m c) (show ((cfg0.win 1).blk t0_0).view.emb y = y from funext fun a => Fin.ext ?_)
  exact (congrArg (· + 1 * (y a).val) (Nat.zero_mul _)).trans ((Nat.zero_add _).trans (Nat.one_mul _))
theorem before_2 (c : Dev nD) (d) : (dats m 0 c).before 2 t0_0 d = vst m c := by
  unfold Dat.before; rw [if_pos (fetch0_2 t0_0)]
  funext y
  refine congrArg (vst m c) (show ((cfg0.win 2).blk t0_0).view.emb y = y from funext fun a => Fin.ext ?_)
  exact (congrArg (· + 1 * (y a).val) (Nat.zero_mul _)).trans ((Nat.zero_add _).trans (Nat.one_mul _))

/-- Nothing is written to an input's array; -/
theorem arrAt_0 (c : Dev nD) (n : ℕ) : (dats m 0 c).arrAt 0 n = V m c main_v1 := (dats m 0 c).arrAt_in 0 rfl n
theorem arrAt_1 (c : Dev nD) (n : ℕ) : (dats m 0 c).arrAt 1 n = V m c main_v2 := (dats m 0 c).arrAt_in 1 rfl n
theorem arrAt_2 (c : Dev nD) (n : ℕ) : (dats m 0 c).arrAt 2 n = V m c main_v3 := (dats m 0 c).arrAt_in 2 rfl n
/-- the result's holds its entry contents before, -/
theorem arrAt_3 (c : Dev nD) : (dats m 0 c).arrAt 3 0 = V m c main_v4 := rfl
/-- the body's output after. -/
theorem arrAt_3N (c : Dev nD) : (dats m 0 c).arrAt 3 cfg0.N = oImg m c := by
  funext i
  exact (dats m 0 c).arrAt_emb_eq_after_last 3 t0_0 (by decide +kernel) i

/-- A whole staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pre₀ (c : Dev nD) : sProp 𝕄 :=
  iprop((dats m 0 c).Φ t0_0.castSucc ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def post₀ (c : Dev nD) : sProp 𝕄 :=
  iprop((dats m 0 c).Φ t0_0.succ ∗ (dats m 0 c).owesAt () t0_0.succ
    ∗ stg c cc0_stg0_0 (qst m c) ∗ stg c cc0_stg1_0 (kst m c) ∗ stg c cc0_stg2_0 (vst m c) ∗ stg c cc0_stg3_0 (oImg m c))

theorem body_pre (c : Dev nD) : pre₀ m c ⊢ iprop((∃ r, prngReg c r) ∗ ∃ K, Start m K c ∗ (kAny c Finset.univ ∗ vAny c Finset.univ) ∗ StgI m c ∗ outP m c 0
    ∗ ∃ W, owes (c : Thread nD τ) (O₀ c) W) := by
  unfold pre₀
  rw [show (dats m 0 c).Φ t0_0.castSucc = iprop(Xk m c ∗ (kAny c Finset.univ ∗ vAny c Finset.univ) ∗ ∃ r, prngReg c r) from rfl]
  unfold Xk
  simp only [before_0, before_1, before_2]
  iintro ⟨⟨⟨%K, HS⟩, HK, Hp⟩, HO, ⟨%d0, %f0, %e0, H0⟩, ⟨%d1, %f1, %e1, H1⟩, ⟨%d2, %f2, %e2, H2⟩, %d3, %f3, -, H3⟩
  subst e0 e1 e2
  ihave HO := (owesAt_in m c t0_0.castSucc) $$ HO
  isplitl [Hp]; · iexact Hp
  iexists K
  isplitl [HS]; · iexact HS
  isplitl [HK]; · iexact HK
  isplitl [H0 H1 H2]
  · unfold StgI
    isplitl [H0]; · iexact H0
    isplitl [H1] <;> iassumption
  isplitl [H3]
  · unfold outP
    iexists f3
    isplitr; · ipureintro; exact fun i h => absurd h (Nat.not_lt_zero _)
    iexact H3
  iexact HO

theorem body_post (c : Dev nD) : iprop((∃ r, prngReg c r) ∗ Zero c ∗ (kAny c Finset.univ ∗ vAny c Finset.univ) ∗ StgI m c ∗ outP m c 16
    ∗ ∃ W, owes (c : Thread nD τ) 0 W) ⊢ post₀ m c := by
  unfold post₀ StgI outP
  iintro ⟨Hp, HZ, HK, ⟨H0, H1, H2⟩, ⟨%f, %hf, H3⟩, HO⟩
  have e : f = oImg m c := funext fun i => hf i (by have h0 := ((i : I4) 0).isLt; have h1 := ((i : I4) 1).isLt; change _ < 2 at h0; change _ < 8 at h1; omega)
  subst e
  isplitl [Hp HZ HK]
  · rw [show (dats m 0 c).Φ t0_0.succ = iprop(Zero c ∗ (kAny c Finset.univ ∗ vAny c Finset.univ) ∗ ∃ r, prngReg c r) from rfl]
    isplitl [HZ]; · iexact HZ
    isplitl [HK] <;> iassumption
  isplitl [HO]; · iapply (owesAt_out m c t0_0.succ); iexact HO
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; · ipureintro; rfl
  iexact H3

set_option maxRecDepth 10000 in
theorem body_obligation (c : Dev nD) : BodyObligation (dats m 0 c) (defs₀ (F := F)) 𝒱₀ () Set.univ := fun t => by
  rw [show t = t0_0 from fin_N0 t]
  rw [bigSep_W0, bigSep_W0]
  simp only [owns_whole]
  show pre₀ m c ⊢ wp frame (wpE (defs₀ (F := F)) 𝒱₀ (c : Thread nD τ) none) Set.univ (cc0_body (F := F) qS (Memref.isWhole_whole _) kS (Memref.isWhole_whole _) vS (Memref.isWhole_whole _) oS (Memref.isWhole_whole _) kM (Memref.isWhole_whole _) vM (Memref.isWhole_whole _) cc0_scratch2 cc0_scratch3 cc0_scratch4 cc0_scratch5 cc0_scratch6)
    (fun _ => post₀ m c)
  refine (body_pre m c).trans ?_
  refine BIBase.Entails.trans ?_ (wp_mono _ _ _ fun _ => body_post m c)
  refine BIBase.Entails.trans ?_ (wp_frame_l _ _ _)
  iintro ⟨Hp, %K, H⟩
  isplitl [Hp]; · iexact Hp
  iapply (body_run m K c)
  iexact H

/-! ## The step -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun p c => dats m p c

/-- The unscoped buffers that the call does not take. -/
abbrev others : Finset (DevRef τ sig) := Pipeline.ucRefs τ sig \ Pipeline.arrRefs (τ := τ) spec0

/-- The buffers after the call. -/
def V₂ (c : Dev nD) : Valuation τ sig (Elt F) := Function.update (V0 m c) (Proc.devRef .tc main_v4) (oImg m c)
theorem V₂_v4 (c : Dev nD) : V₂ m c (Proc.devRef .tc main_v4) = oImg m c := Function.update_self ..
theorem V₂_ne (c : Dev nD) (b : Ref sig .tc) (h : (Proc.devRef .tc b : DevRef τ sig) ≠ Proc.devRef .tc main_v4) :
    V₂ m c (Proc.devRef .tc b) = V m c b := Function.update_of_ne h ..

theorem v4_mem : (Proc.devRef .tc main_v4 : DevRef τ sig) ∈ Pipeline.arrRefs (τ := τ) spec0 :=
  Finset.mem_map_of_mem _ (Finset.mem_image.mpr ⟨3, Finset.mem_univ _, rfl⟩)

theorem kitP : Pipeline.PLaunchFacts (nD := nD) (τ := τ) (pcfgs (F := F)) 0 := launch0.toP

theorem owed_cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have hA : Above 0 ((pdats m 0 c).owed t) := by
    rcases t with ⟨_ | t, ht⟩
    · exact above_O₀ c
    · exact above_zero 0
  obtain ⟨h1, h2⟩ := hA g i h
  exact ⟨by unfold L; rw [if_pos h1]; exact Finset.mem_singleton_self _, h2⟩

theorem lv_stage (c : Dev nD) : ∀ (w : Fin 4) (s : Fin (spec0 w).nbuf), lvS (.dma ((spec0 w).sem s)) ≤ 0 := by decide +kernel

theorem hin (c : Dev nD) : iprop(Pipeline.scopedRest (Pipeline.pin (pcfgs (F := F)) adm 0).spec c ∗ (∃ r, prngReg c r)
    ∗ StableHlo.held (c.tc : Thread nD τ) ∅ (V0 m c) ∗ Xk m c) ⊢ (pdats m 0 c).Φ 0 := by
  rw [show (pdats m 0 c).Φ 0 = iprop(Xk m c ∗ (kAny c Finset.univ ∗ vAny c Finset.univ) ∗ ∃ r, prngReg c r) from rfl,
    show (Pipeline.scopedRest (Pipeline.pin (pcfgs (F := F)) adm 0).spec c : sProp 𝕄) = _ from scopedRest0_eq c]
  unfold kAny vAny
  iintro ⟨HS, Hp, -, HX⟩
  isplitl [HX]; · iexact HX
  isplitl [HS]; · iexact HS
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(Zero c ∗ (kAny c Finset.univ ∗ vAny c Finset.univ) ∗ ∃ r, prngReg c r) from rfl,
    show (Pipeline.scopedRest (Pipeline.pin (pcfgs (F := F)) adm 0).spec c : sProp 𝕄) = _ from scopedRest0_eq c, ownSems_eq]
  unfold kAny vAny Zero Yk StableHlo.held
  rw [bigSep_empty]
  iintro ⟨⟨HZ, HE, HB⟩, HS, Hp⟩
  isplitl [HS]; · iexact HS
  isplitl [Hp]; · iexact Hp
  isplitr; · iempintro
  isplitl [HZ HE]
  · isplitl [HZ] <;> iassumption
  iexact HB

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) kitP rfl (fun c => (body_obligation m c).loose)
    (fun _ => 0) O₀ (fun c => (show (pdats m 0 c).owed 0 = O₀ c from rfl).trans (zero_add _).symm)
    (fun c => show (pdats m 0 c).owed (Fin.last _) = 0 from rfl) (fun _ => rfl) (fun c w => share_eq m c w)
    (V0 m) (V₂ m)
    (fun c b hb => Function.update_of_ne (fun h : b = Proc.devRef .tc main_v4 => (Finset.mem_sdiff.mp (Finset.mem_sdiff.mp hb).1).2 (by rw [h]; exact v4_mem)) ..)
    (Tk m) Yk (Xk m) Yk (hopen m) (fun c => hin m c) (hout m)
    (fun c => by iintro H; imodintro; iexact H)
    (fun _ => 0)
    ⟨fun c w s => by rw [L_tc]; exact Finset.mem_singleton_self _, fun c w s => lv_stage c w s, fun c t g i h => owed_cut m c t g i h⟩
    (fun _ => iprop(emp))
    (fun c w => rfl)
    (fun c w => by
      fin_cases w
      · exact (arrAt_0 m c _).trans (V₂_ne m c main_v1 (by decide)).symm
      · exact (arrAt_1 m c _).trans (V₂_ne m c main_v2 (by decide)).symm
      · exact (arrAt_2 m c _).trans (V₂_ne m c main_v3 (by decide)).symm
      · exact (arrAt_3N m c).trans (V₂_v4 m c).symm)

/-- What the step takes besides the buffers, -/
def Rk (c : Dev nD) : sProp 𝕄 := iprop((∃ r, prngReg c r) ∗ Tk m c ∗ ∃ W, owes (c : Thread nD τ) (O₀ c) W)
/-- and leaves. -/
def Rk' (c : Dev nD) : sProp 𝕄 := iprop(semVal (barC c) 0 ∗ ∃ W, owes (c : Thread nD τ) (0 : CellTallies nD τ sig Unit) W)

theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) others W) :=
  StableHlo.held_sub_split (c : Thread nD τ) (Pipeline.arrRefs_sub_ucRefs spec0 winFacts0.arr_unscoped) W

theorem region_pre (c : Dev nD) : iprop(StableHlo.held (c : Thread nD τ) (Pipeline.ucRefs τ sig) (V0 m c) ∗ Rk m c) ⊢ (region m).pre c := by
  show _ ⊢ iprop(StableHlo.held (c.tc : Thread nD τ) (Pipeline.arrRefs (τ := τ) spec0) (V0 m c) ∗ (∃ r, prngReg c r)
    ∗ (StableHlo.held (c.tc : Thread nD τ) others (V0 m c) ∗ emp) ∗ Tk m c ∗ ∃ Wd, owes (c : Thread nD τ) (0 + O₀ c) Wd)
  rw [held_split, zero_add]
  unfold Rk
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

theorem region_post (c : Dev nD) : (region m).post c ⊢ iprop(StableHlo.held (c : Thread nD τ) (Pipeline.ucRefs τ sig) (V₂ m c) ∗ Rk' c) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [held_split]
  unfold Rk' Yk
  iintro ⟨Ha, -, ⟨Ho, -⟩, HB, HO⟩
  isplitl [Ha Ho]
  · isplitl [Ha] <;> iassumption
  isplitl [HB] <;> iassumption

end Cert.Attn

end
-- ==== Proof.Launch.lean ====
/-
The program on all devices: the exchange's records made at launch and handed out, the host's transposes around the
kernel call, what every final state holds.
-/
module

public import proofs.«01_k».proof.Proof.Region

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

def barEmb : Dev nD ↪ GSem nD τ sig := ⟨fun c => barC c, fun _ _ h => congrArg (fun g : GSem nD τ sig => g.1.1) h⟩
def ownEmb : Dev nD × ((Ch × Fin 4) ⊕ Unit) ↪ GSem nD τ sig :=
  ⟨fun ck => ((ck.1 : Thread nD τ), osem ck.2), fun _ _ h =>
    Prod.ext (congrArg (fun g : GSem nD τ sig => g.1.1) h) (osem_facts.inj (congrArg Prod.snd h))⟩
abbrev barCells : Finset (GSem nD τ sig) := Finset.univ.map barEmb
abbrev ownCells : Finset (GSem nD τ sig) := Finset.univ.map ownEmb

theorem osem_ne_bar : ∀ k, osem k ≠ .reg barS := by decide +kernel

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The duties: one at each transfer semaphore, two at the barrier's and two at the last handshake's. -/
def tkey : (Ch × Fin 4) ⊕ (Bool × Bool) → SemLoc sig × Bool
  | .inl k => (osem (.inl k), false)
  | .inr (false, d) => (.reg barS, d)
  | .inr (true, d) => (.reg exS, d)
theorem tkey_inj : Function.Injective tkey := by decide +kernel
def tokens : Finset (GSem nD τ sig × ℕ × Bool) :=
  (Finset.univ : Finset (Dev nD × ((Ch × Fin 4) ⊕ (Bool × Bool)))).map
    ⟨fun ck => (((ck.1 : Thread nD τ), (tkey ck.2).1), 0, (tkey ck.2).2), fun _ _ h =>
      Prod.ext (congrArg (fun t : GSem nD τ sig × ℕ × Bool => t.1.1.1) h)
        (tkey_inj (Prod.ext (congrArg (fun t : GSem nD τ sig × ℕ × Bool => t.1.2) h) (congrArg (fun t : GSem nD τ sig × ℕ × Bool => t.2.2) h)))⟩

theorem bar_mem (c : Dev nD) : barC c ∈ (barCells ∪ ownCells : Finset (GSem nD τ sig)) :=
  Finset.mem_union_left _ (Finset.mem_map_of_mem barEmb (Finset.mem_univ c))
theorem own_mem (c : Dev nD) (k) : (((c : Thread nD τ), osem k) : GSem nD τ sig) ∈ (barCells ∪ ownCells : Finset (GSem nD τ sig)) :=
  Finset.mem_union_right _ (Finset.mem_map_of_mem ownEmb (Finset.mem_univ (c, k)))

/-- The records any device may read: the invariants, and that the barriers stand at their round. -/
def Rec (κ : GSem nD τ sig → ℕ) : sProp 𝕄 :=
  iprop((bigSep (barCells ∪ ownCells) fun g => cellInv ER (Rd m) (κ g) g) ∗ bigSep barCells fun g => reached ER g 0)
instance rec_persistent (κ : GSem nD τ sig → ℕ) : BI.Persistent (Rec m κ) := by unfold Rec; infer_instance

theorem inv_of (κ : GSem nD τ sig → ℕ) {g : GSem nD τ sig} (hg : g ∈ (barCells ∪ ownCells : Finset (GSem nD τ sig))) :
    Rec m κ ⊢ cellInv ER (Rd m) (κ g) g := by
  unfold Rec
  iintro ⟨H, -⟩
  iapply (show (bigSep (barCells ∪ ownCells) fun g => (cellInv ER (Rd m) (κ g) g : sProp 𝕄)) ⊢ cellInv ER (Rd m) (κ g) g from bigSep_elim hg)
  iexact H
theorem reached_of (κ : GSem nD τ sig → ℕ) (c : Dev nD) : Rec m κ ⊢ reached ER (barC c) 0 := by
  unfold Rec
  iintro ⟨-, H⟩
  iapply (show (bigSep barCells fun g => (reached ER g 0 : sProp 𝕄)) ⊢ reached ER (barC c) 0 from bigSep_elim (Finset.mem_map_of_mem barEmb (Finset.mem_univ c)))
  iexact H

/-- A chunk's invariants from the records. -/
theorem invCh_of (κ : GSem nD τ sig → ℕ) (c : Dev nD) (ch : Ch) : Rec m κ ⊢ InvCh m κ c ch := by
  unfold InvCh
  iintro #H
  isplitr; · iapply (inv_of m κ (own_mem c (.inl (ch, 0)))); iexact H
  isplitr; · iapply (inv_of m κ (own_mem c (.inl (ch, 1)))); iexact H
  isplitr; · iapply (inv_of m κ (own_mem c (.inl (ch, 2)))); iexact H
  isplitr; · iapply (inv_of m κ (own_mem c (.inl (ch, 3)))); iexact H
  isplitr; · iapply (inv_of m κ (own_mem (xp c) (.inl (ch, 1)))); iexact H
  iapply (inv_of m κ (own_mem (yp c) (.inl (ch, 3)))); iexact H

theorem invB_of (κ : GSem nD τ sig → ℕ) (c : Dev nD) : Rec m κ ⊢ InvB m κ c := by
  unfold InvB
  iintro #H
  isplitr; · iapply (inv_of m κ (bar_mem c)); iexact H
  isplitr; · iapply (inv_of m κ (bar_mem (xp c))); iexact H
  isplitr; · iapply (inv_of m κ (bar_mem (yp c))); iexact H
  isplitr; · iapply (inv_of m κ (own_mem c (.inr ()))); iexact H
  isplitr; · iapply (inv_of m κ (own_mem (xp c) (.inr ()))); iexact H
  isplitr; · iapply (inv_of m κ (own_mem (yp c) (.inr ()))); iexact H
  isplitr; · iapply (reached_of m κ (xp c)); iexact H
  iapply (reached_of m κ (yp c)); iexact H

/-- Every chunk's. -/
theorem invs_of (κ : GSem nD τ sig → ℕ) (c : Dev nD) : Rec m κ ⊢ (bigSep Finset.univ fun ch => InvCh m κ c ch : sProp 𝕄) := by
  rw [bigSep_univ_eq_bigSepL [0, 1, 2, 3, 4, 5, 6, 7] (by decide) (by decide)]
  simp only [bigSepL_cons_cons, bigSepL_singleton]
  show Rec m κ ⊢ iprop(InvCh m κ c 0 ∗ InvCh m κ c 1 ∗ InvCh m κ c 2 ∗ InvCh m κ c 3 ∗ InvCh m κ c 4 ∗ InvCh m κ c 5 ∗ InvCh m κ c 6 ∗ InvCh m κ c 7)
  iintro #H
  isplitr; · iapply (invCh_of m κ c 0); iexact H
  isplitr; · iapply (invCh_of m κ c 1); iexact H
  isplitr; · iapply (invCh_of m κ c 2); iexact H
  isplitr; · iapply (invCh_of m κ c 3); iexact H
  isplitr; · iapply (invCh_of m κ c 4); iexact H
  isplitr; · iapply (invCh_of m κ c 5); iexact H
  isplitr; · iapply (invCh_of m κ c 6); iexact H
  iapply (invCh_of m κ c 7); iexact H

/-- What only device `c` gets. -/
def Lin (c : Dev nD) : sProp 𝕄 :=
  iprop(atPos ER (barC c) 0 ∅ 0 ∗ ((bigSep Finset.univ fun ch : Ch => OpenCh c ch) ∗ openTok ER (exC c)) ∗ ((bigSep Finset.univ fun ch : Ch => TokCh c ch) ∗ TokB c))

theorem gh_intro (κ : GSem nD τ sig → ℕ) (c : Dev nD) : iprop(Rec m κ ∗ Lin c) ⊢ iprop(∃ K, Gh m K c) := by
  unfold Lin Gh
  iintro ⟨#H, Ha, Ho, Ht⟩
  iexists κ
  isplitr; · iapply (invs_of m κ c); iexact H
  isplitr; · iapply (invB_of m κ c); iexact H
  isplitl [Ha]; · iexact Ha
  isplitl [Ho] <;> iassumption

/-! ## The tokens, each to the device that pays -/

omit [FloatOps F] in
theorem bigSep_bool2 (Φ : Bool × Bool → sProp 𝕄) : bigSep Finset.univ Φ = iprop(Φ (false, false) ∗ Φ (false, true) ∗ Φ (true, false) ∗ Φ (true, true)) :=
  (bigSep_univ_eq_bigSepL [(false, false), (false, true), (true, false), (true, true)] (by decide) (by decide) Φ).trans rfl

/-- The tokens of one device's own cells. -/
def TokAt (c : Dev nD) : sProp 𝕄 :=
  iprop((bigSep Finset.univ fun ch : Ch => iprop(tk c (sx ch) ∗ tk c (rx ch) ∗ tk c (sf ch) ∗ tk c (rf ch)))
    ∗ (dutyTok ER (barC c) 0 false ∗ dutyTok ER (barC c) 0 true ∗ dutyTok ER (exC c) 0 false ∗ dutyTok ER (exC c) 0 true))

omit [FloatOps F] in
theorem tokens_eq : bigSep tokens (fun x => (dutyTok ER x.1 x.2.1 x.2.2 : sProp 𝕄)) = bigSep Finset.univ fun c : Dev nD => TokAt c := by
  unfold tokens; rw [bigSep_map, bigSep_univ_prod]
  refine bigSep_congr fun c _ => ?_
  unfold TokAt
  refine (bigSep_univ_sum _).trans (congrArg₂ BIBase.sep ?_ ?_)
  · exact (bigSep_univ_prod _).trans (bigSep_congr fun ch _ => bigSep_four (F := F) _)
  · exact bigSep_bool2 _

omit [FloatOps F] in
theorem tokens_around : (bigSep Finset.univ fun c : Dev nD => (TokAt c : sProp 𝕄))
    ⊢ bigSep Finset.univ fun c : Dev nD => iprop((bigSep Finset.univ fun ch : Ch => TokCh c ch) ∗ TokB c) := by
  unfold TokAt TokCh TokB
  simp only [bigSep_sep']
  rw [bigSep_univ_equiv xEquiv (fun c : Dev nD => (bigSep Finset.univ fun ch : Ch => (tk c (rx ch) : sProp 𝕄))),
    bigSep_univ_equiv yEquiv (fun c : Dev nD => (bigSep Finset.univ fun ch : Ch => (tk c (rf ch) : sProp 𝕄))),
    bigSep_univ_equiv xEquiv (fun c : Dev nD => (dutyTok ER (barC c) 0 false : sProp 𝕄)),
    bigSep_univ_equiv yEquiv (fun c : Dev nD => (dutyTok ER (barC c) 0 true : sProp 𝕄)),
    bigSep_univ_equiv xEquiv (fun c : Dev nD => (dutyTok ER (exC c) 0 false : sProp 𝕄)),
    bigSep_univ_equiv yEquiv (fun c : Dev nD => (dutyTok ER (exC c) 0 true : sProp 𝕄))]
  exact .rfl

/-! ## The credit -/

/-- What all the devices together owe through one permuted cell. -/
theorem sum_cell (e : Dev nD ≃ Dev nD) (s s' : SemLoc sig) (n : ℕ) (c : Dev nD) :
    ∑ d : Dev nD, (tallyAt (((e d : Dev nD) : Thread nD τ), s) () n : CellTallies nD τ sig Unit) ((c : Thread nD τ), s') () = if s' = s then n else 0 := by
  by_cases h : s' = s
  · subst h
    rw [if_pos rfl, Finset.sum_eq_single (e.symm c)]
    · rw [Equiv.apply_symm_apply, tallyAt_apply, if_pos ⟨rfl, rfl⟩]
    · intro d _ hd
      refine (tallyAt_apply _ _ _ _ _).trans (if_neg fun ⟨h1, _⟩ => hd ?_)
      have : c = e d := congrArg (fun g : GSem nD τ sig => g.1.1) h1
      rw [this, Equiv.symm_apply_apply]
    · exact fun h => absurd (Finset.mem_univ _) h
  · rw [if_neg h]
    exact Finset.sum_eq_zero fun d _ => by rw [tallyAt_apply, if_neg fun ⟨h1, _⟩ => h (congrArg Prod.snd h1)]

theorem sum_x (s s' : SemLoc sig) (n : ℕ) (c : Dev nD) :
    ∑ d : Dev nD, (tallyAt (((xp d : Dev nD) : Thread nD τ), s) () n : CellTallies nD τ sig Unit) ((c : Thread nD τ), s') () = if s' = s then n else 0 :=
  sum_cell xEquiv s s' n c
theorem sum_y (s s' : SemLoc sig) (n : ℕ) (c : Dev nD) :
    ∑ d : Dev nD, (tallyAt (((yp d : Dev nD) : Thread nD τ), s) () n : CellTallies nD τ sig Unit) ((c : Thread nD τ), s') () = if s' = s then n else 0 :=
  sum_cell yEquiv s s' n c

/-- All the devices' debts to one cell. -/
theorem sum_owed (c : Dev nD) (s : SemLoc sig) : ∑ d : Dev nD, O₀ d ((c : Thread nD τ), s) ()
    = (((((if s = .reg exS then 1 else 0) + (if s = .reg exS then 1 else 0)) + ∑ ch : Ch, (if s = .dma (rf ch) then amt (isV ch) else 0))
      + ∑ ch : Ch, (if s = .dma (rx ch) then amt (isV ch) else 0)) + (if s = .reg barS then 1 else 0)) + (if s = .reg barS then 1 else 0) := by
  unfold O₀ O₁ owM owE owY owX
  simp only [Pi.add_apply, Finsupp.add_apply, Finset.sum_apply, Finsupp.finset_sum_apply, Finset.sum_add_distrib]
  refine congrArg₂ (· + ·) (congrArg₂ (· + ·) (congrArg₂ (· + ·) (congrArg₂ (· + ·) (congrArg₂ (· + ·) ?_ ?_) ?_) ?_) ?_) ?_
  · exact sum_y (.reg exS) s 1 c
  · exact sum_x (.reg exS) s 1 c
  · exact Finset.sum_comm.trans (Finset.sum_congr rfl fun ch _ => sum_y (.dma (rf ch)) s _ c)
  · exact Finset.sum_comm.trans (Finset.sum_congr rfl fun ch _ => sum_x (.dma (rx ch)) s _ c)
  · exact sum_y (.reg barS) s 1 c
  · exact sum_x (.reg barS) s 1 c

theorem launch_at (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem reg_ne_dma (s : Sem sig) (q : DmaSem sig) : (SemLoc.reg s : SemLoc sig) ≠ .dma q := fun h => by cases h
theorem rx_ne_rf : ∀ ch ch' : Ch, (SemLoc.dma (rx ch) : SemLoc sig) ≠ .dma (rf ch') := by decide
theorem rx_inj : ∀ ch ch' : Ch, (SemLoc.dma (rx ch) : SemLoc sig) = .dma (rx ch') ↔ ch = ch' := by decide
theorem rf_inj : ∀ ch ch' : Ch, (SemLoc.dma (rf ch) : SemLoc sig) = .dma (rf ch') ↔ ch = ch' := by decide
theorem ex_ne_bar : (SemLoc.reg exS : SemLoc sig) ≠ .reg barS := by decide

theorem sum_bar (c : Dev nD) : ∑ d : Dev nD, O₀ d (barC c) () = 2 := by
  rw [sum_owed, if_neg ex_ne_bar.symm, if_pos rfl, Finset.sum_eq_zero fun ch _ => if_neg (reg_ne_dma _ _), Finset.sum_eq_zero fun ch _ => if_neg (reg_ne_dma _ _)]
  rfl
theorem sum_ex (c : Dev nD) : ∑ d : Dev nD, O₀ d (exC c) () = 2 := by
  rw [sum_owed, if_neg ex_ne_bar, if_pos rfl, Finset.sum_eq_zero fun ch _ => if_neg (reg_ne_dma _ _), Finset.sum_eq_zero fun ch _ => if_neg (reg_ne_dma _ _)]
  rfl
theorem sum_rx (c : Dev nD) (ch : Ch) : ∑ d : Dev nD, O₀ d (dC c (rx ch)) () = amt (isV ch) := by
  rw [sum_owed, if_neg (reg_ne_dma _ _).symm, if_neg (reg_ne_dma _ _).symm, Finset.sum_eq_zero fun ch' _ => if_neg (rx_ne_rf ch ch')]
  simp only [rx_inj, Finset.sum_ite_eq, Finset.mem_univ, if_true, Nat.zero_add, Nat.add_zero]
theorem sum_rf (c : Dev nD) (ch : Ch) : ∑ d : Dev nD, O₀ d (dC c (rf ch)) () = amt (isV ch) := by
  rw [sum_owed, if_neg (reg_ne_dma _ _).symm, if_neg (reg_ne_dma _ _).symm, Finset.sum_eq_zero (f := fun ch' => if SemLoc.dma (rf ch) = SemLoc.dma (rx ch') then amt (isV ch') else 0) fun ch' _ => if_neg (rx_ne_rf ch' ch).symm]
  simp only [rf_inj, Finset.sum_ite_eq, Finset.mem_univ, if_true, Nat.zero_add, Nat.add_zero]

/-- The semaphores that start with credit. -/
def csem : Bool ⊕ (Ch × Bool) → SemLoc sig
  | .inl false => .reg barS
  | .inl true => .reg exS
  | .inr (ch, false) => .dma (rx ch)
  | .inr (ch, true) => .dma (rf ch)
def csemEmb : Bool ⊕ (Ch × Bool) ↪ SemLoc sig := ⟨csem, by decide +kernel⟩

omit [FloatOps F] in
theorem bigSep_bool (Φ : Bool → sProp 𝕄) : bigSep Finset.univ Φ = iprop(Φ false ∗ Φ true) :=
  (bigSep_univ_eq_bigSepL [false, true] (by decide) (by decide) Φ).trans rfl

theorem creds (c : Dev nD) : (Pipeline.launchCred O₀ c : sProp 𝕄) ⊢ Cr c := by
  unfold Pipeline.launchCred
  refine (bigSep_subset (Finset.subset_univ (Finset.univ.map csemEmb))).trans ?_
  rw [bigSep_map, bigSep_univ_sum, bigSep_univ_prod, bigSep_bool]
  unfold Cr CredCh
  rw [bigSep_congr fun ch _ => bigSep_bool (F := F) _]
  rw [show csemEmb (.inl false) = .reg barS from rfl, show csemEmb (.inl true) = .reg exS from rfl, launch_at c _ 2 (sum_bar c), launch_at c _ 2 (sum_ex c)]
  rw [bigSep_congr fun ch _ => show iprop(cred (tallyOn ((c : Thread nD τ), csemEmb (.inr (ch, false))) (launchCredit (Pipeline.owing O₀) 0 ((c : Thread nD τ), csemEmb (.inr (ch, false)))))
      ∗ cred (tallyOn ((c : Thread nD τ), csemEmb (.inr (ch, true))) (launchCredit (Pipeline.owing O₀) 0 ((c : Thread nD τ), csemEmb (.inr (ch, true)))))) = (iprop(cr c (rx ch) ch ∗ cr c (rf ch) ch) : sProp 𝕄) from by
    rw [show csemEmb (.inr (ch, false)) = .dma (rx ch) from rfl, show csemEmb (.inr (ch, true)) = .dma (rf ch) from rfl,
      launch_at c _ _ (sum_rx c ch), launch_at c _ _ (sum_rf c ch)]]
  exact (show iprop((cred (tallyAt (barC c) () 2) ∗ cred (tallyAt (exC c) () 2)) ∗ bigSep Finset.univ fun ch : Ch => iprop(cr c (rx ch) ch ∗ cr c (rf ch) ch))
      ⊢ (iprop(cred (tallyAt (barC c) () 2) ∗ cred (tallyAt (exC c) () 2) ∗ bigSep Finset.univ fun ch : Ch => iprop(cr c (rx ch) ch ∗ cr c (rf ch) ch)) : sProp 𝕄) from by
    iintro ⟨⟨H1, H2⟩, H3⟩
    isplitl [H1]; · iexact H1
    isplitl [H2] <;> iassumption)

/-! ## The program -/

theorem unscoped_eq : ∀ sm : SemLoc sig, sm.isScoped .tc = false → sm = .reg barS := by decide +kernel

omit [FloatOps F] in
theorem unscopedSems (c : Dev nD) : (unscopedSems0 c : sProp 𝕄) = semVal (barC c) 0 := by
  unfold unscopedSems0
  rw [show (Finset.univ.filter fun sm : SemLoc sig => ¬ sm.isScoped .tc) = {SemLoc.reg barS} from by decide +kernel, bigSep_singleton]

omit [FloatOps F] in
theorem unscopedBufs_eq (c : Dev nD) (W : Valuation τ sig (Elt F)) :
    (unscopedBufs c (fun b => W b) : sProp 𝕄) = StableHlo.held (c : Thread nD τ) (Pipeline.ucRefs τ sig) W := by
  unfold unscopedBufs StableHlo.held Pipeline.ucRefs StableHlo.tcRefs
  rw [Finset.filter_map, bigSep_map]
  rfl

/-- The buffers at the start and at the end. -/
abbrev Vi (c : Dev nD) : Valuation τ sig (Elt F) := fun b => m (c, b)
abbrev Vf (c : Dev nD) : Valuation τ sig (Elt F) := StableHlo.after hostOps1 (V₂ m c)

def host₀ : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vi m) (Rk m)
def host₁ : Pipeline.HostSeg (Name := ℕ) (U := UU) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V₂ m) Rk'

def segs : List (Pipeline.Seg (pcfgs (F := F)) adm (pdats m) () defs₀ 𝒱₀ L lv) :=
  [.host (host₀ m), .region (region m), .host (host₁ m)]

theorem main_run (c : Dev nD) : main (F := F) c = Pipeline.Seg.run (segs m) :=
  main_segs adm (pdats m) () 𝒱₀ L lv (host₀ m) (host₁ m) (region m) rfl rfl c

abbrev pcell_inj : Function.Injective (Pipeline.cellOf (nD := nD) (τ := τ) (Pipeline.pin (pcfgs (F := F)) adm)) := cellOf_inj

/-- The ghost state at launch: the staging transfers' and the exchange's. -/
def u₀ : UU :=
  (initOf (Pipeline.cells (Pipeline.pin (pcfgs (F := F)) adm) pcell_inj) (Pipeline.launchToks (Pipeline.pin (pcfgs (F := F)) adm) pcell_inj),
    launchOf barCells ownCells tokens)

/-- The exchange's, kept by device 0 until it is handed out. -/
def G (c : Dev nD) : sProp 𝕄 := if c = 0 then BI.own (ER (launchOf barCells ownCells tokens)) else iprop(emp)
omit [FloatOps F] in
theorem G_all : bigSep Finset.univ (G (F := F)) = BI.own (ER (launchOf barCells ownCells tokens)) := by
  rw [bigSep_univ_at _ 0, bigSep_congr (s := Finset.univ.erase 0) (Ψ := fun _ => (BI.emp : sProp 𝕄))
      fun c hc => by unfold G; rw [if_neg (Finset.ne_of_mem_erase hc)]; rfl, bigSep_emp_const]
  unfold G; rw [if_pos rfl]
  exact BI.equiv_iff.mp sep_emp

abbrev T₀ (c : Dev nD) : sProp 𝕄 := iprop(StableHlo.held (c : Thread nD τ) (Pipeline.ucRefs τ sig) (Vi m c) ∗ Rk m c)
abbrev Tₙ (c : Dev nD) : sProp 𝕄 := iprop(StableHlo.held (c : Thread nD τ) (Pipeline.ucRefs τ sig) (Vf m c) ∗ semVal (barC c) 0)

/-- A device's part of the launch apart from the exchange's. -/
def Base (c : Dev nD) : sProp 𝕄 :=
  iprop(StableHlo.held (c : Thread nD τ) (Pipeline.ucRefs τ sig) (Vi m c) ∗ Cr c ∗ owes (c : Thread nD τ) (O₀ c) ∅ ∗ ∃ r, prngReg c r)

theorem start_of (κ : GSem nD τ sig → ℕ) (c : Dev nD) : iprop(Rec m κ ∗ (Lin c ∗ Base m c)) ⊢ T₀ m c := by
  unfold Base T₀ Rk Tk
  iintro ⟨#HR, Hl, Hh, HC, HO, Hp⟩
  isplitl [Hh]; · iexact Hh
  isplitl [Hp]; · iexact Hp
  isplitl [Hl HC]
  · isplitl [Hl]
    · iapply (gh_intro m κ c)
      isplitr; · iexact HR
      iexact Hl
    iexact HC
  iexists ∅; iexact HO

theorem deal (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(Base m c ∗ (semVal (barC c) 0 ∗ G c)) : sProp 𝕄) := by
  rw [show unscopedBufs c (fun b => m ((c : Thread nD τ).loc b)) = StableHlo.held (c : Thread nD τ) (Pipeline.ucRefs τ sig) (Vi m c) from unscopedBufs_eq c (Vi m c),
    unscopedSems]
  unfold Base
  iintro ⟨Hh, Hs, HO, Hc, Hp, HG⟩
  isplitl [Hh HO Hc Hp]
  · isplitl [Hh]; · iexact Hh
    isplitl [Hc]; · iapply (creds (F := F) c); iexact Hc
    isplitl [HO]; · iexact HO
    iexists (ρ c); iexact Hp
  isplitl [Hs] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄))
      ⊢ bigSep Finset.univ (fun c : Dev nD => iprop((bigSep Finset.univ fun ch : Ch => OpenCh c ch) ∗ openTok ER (exC c))) :=
    Entails.of_eq (by
      rw [bigSep_map, bigSep_univ_prod]
      exact bigSep_congr fun c _ => over_osem (F := F) fun s => openTok ER ((c : Thread nD τ), s))
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(Base m c ∗ (semVal (barC c) 0 ∗ G c)) : sProp 𝕄) from bigSep_mono fun c _ => deal m ρ c) $$ H
  ihave H := (Entails.of_eq (bigSep_sep' _ _ _)) $$ H; icases H with ⟨HB, H⟩
  ihave H := (Entails.of_eq (bigSep_sep' _ _ _)) $$ H; icases H with ⟨Hv, HG⟩
  ihave Hu := (Entails.of_eq (G_all (F := F))) $$ HG
  imod (Rounds.fund_launch ER (Rd m) cells_disjoint (fun g _ h => h) tokens) $$ [Hv Hu] with ⟨%κ, -, #Hinv, #Hr, Hat, Hopen, Htok⟩
  · isplitl [Hv]
    · iapply hv $$ Hv
    · iexact Hu
  imodintro
  iapply (bigSep_with_persistent (R := Rec m κ) (Φ := fun c => iprop(Lin c ∗ Base m c)) fun c _ => start_of m κ c)
  isplitr
  · unfold Rec
    isplitr; · iexact Hinv
    iexact Hr
  iapply (Entails.of_eq (bigSep_sep' _ _ _).symm)
  isplitr [HB]
  · unfold Lin
    iapply (Entails.of_eq (bigSep_sep' _ _ _).symm); isplitl [Hat]; · iapply hat $$ Hat
    iapply (Entails.of_eq (bigSep_sep' _ _ _).symm); isplitl [Hopen]; · iapply ho $$ Hopen
    iapply (tokens_around (F := F))
    iapply (Entails.of_eq (tokens_eq (F := F))) $$ Htok
  · iexact HB

/-! ## The buffers at the end -/

theorem Vf_arg (c : Dev nD) (b : Ref sig .tc) (h4 : (Proc.devRef .tc b : DevRef τ sig) ≠ Proc.devRef .tc main_v4)
    (h5 : b ≠ main_v5) : Vf m c (Proc.devRef .tc b) = V m c b := by
  show StableHlo.after hostOps1 (V₂ m c) (Proc.devRef .tc b) = _
  rw [StableHlo.after_cons, StableHlo.after_nil, StableHlo.unary_result_ne main_v4 main_v5 _ _ _ _ h5]
  exact V₂_ne m c b h4

/-- The result: the output with its axes back in the arguments' order. -/
def outT (c : Dev nD) : (main_v5 : Ref sig .tc).ty.Contents (Elt F) :=
  transpose S2x512x8x64 [0, 3, 1, 2] (oImg m c : FVec F S2x8x64x512 .f32) transposes_S2x8x64x512_S2x512x8x64_0_3_1_2

theorem Vf_v5 (c : Dev nD) : Vf m c (Proc.devRef .tc main_v5) = outT m c := by
  show StableHlo.after hostOps1 (V₂ m c) (Proc.devRef .tc main_v5) = _
  rw [StableHlo.after_cons, StableHlo.after_nil, StableHlo.unary_result main_v4 main_v5, V₂_v4]
  rfl

/-- The buffers the statement speaks of, out of all. -/
abbrev four : Finset (DevRef τ sig) := {Proc.devRef .tc main_arg0, Proc.devRef .tc main_arg1, Proc.devRef .tc main_arg2, Proc.devRef .tc main_v5}

theorem four_sub : (four : Finset (DevRef τ sig)) ⊆ Pipeline.ucRefs τ sig := by decide

omit [FloatOps F] in
theorem held_four (c : Dev nD) (W : Valuation τ sig (Elt F)) : (StableHlo.held (c : Thread nD τ) (Pipeline.ucRefs τ sig) W : sProp 𝕄)
    ⊢ iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v5) ↦{fullShare} W (Proc.devRef .tc main_v5))) := by
  unfold StableHlo.held
  refine (bigSep_subset four_sub).trans ?_
  rw [bigSep_eq_bigSepL_of_eq [Proc.devRef .tc main_arg0, Proc.devRef .tc main_arg1, Proc.devRef .tc main_arg2, Proc.devRef .tc main_v5] (by decide) (by decide)]
  show iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v5) ↦{fullShare} W (Proc.devRef .tc main_v5))) ⊢ _
  iintro H; iexact H

set_option backward.isDefEq.respectTransparency.types false in
/-- Every fair run of the program on the sixteen devices ends, without a fault, with the arguments unchanged, each
    device's result the one computed from the arguments, and every semaphore at zero. -/
theorem run_main : θ_run defs (onTc (τ := τ) (main (F := F))) (s₀ m ρ)
    (fun r => (∀ c : Dev nD, r.2.mem ((c : Thread nD τ).loc main_v5) = outT m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () pcell_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => region_pre m c, fun c => region_post m c, fun c => ?_⟩
      show iprop(StableHlo.held (c : Thread nD τ) (Pipeline.ucRefs τ sig) (Vf m c) ∗ Rk' c)
        ⊢ iprop(Tₙ m c ∗ ∃ W, owes (c : Thread nD τ) (0 : CellTallies nD τ sig Unit) W)
      unfold Rk'
      iintro ⟨Hh, Hb, HO⟩
      isplitr [HO]
      · isplitl [Hh] <;> iassumption
      · iexact HO)
    (hinit := init m ρ)
    (QY := fun c s => (s.mem ((c : Thread nD τ).loc main_arg0) = Vf m c (Proc.devRef .tc main_arg0)
        ∧ s.mem ((c : Thread nD τ).loc main_arg1) = Vf m c (Proc.devRef .tc main_arg1)
        ∧ s.mem ((c : Thread nD τ).loc main_arg2) = Vf m c (Proc.devRef .tc main_arg2)
        ∧ s.mem ((c : Thread nD τ).loc main_v5) = Vf m c (Proc.devRef .tc main_v5)) ∧ s.sem (barC c) = 0)
    (hfin := fun c s' => by
      iintro ⟨⟨Hh, Hb⟩, HSI⟩
      ihave Hh := (held_four (F := F) c (Vf m c)) $$ Hh
      icases Hh with ⟨H0, H1, H2, H5⟩
      icombine HSI H0 gives %h0
      icombine HSI H1 gives %h1
      icombine HSI H2 gives %h2
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h5⟩, by simpa using hb⟩
      iexact HSI)
    (hQ := fun s h hs => ⟨fun c => by
        obtain ⟨⟨h0, h1, h2, h5⟩, -⟩ := h c
        refine ⟨h5.trans (Vf_v5 m c), h0.trans ?_, h1.trans ?_, h2.trans ?_⟩
        · exact (Vf_arg m c main_arg0 (by decide) (by decide)).trans (V_main_arg0 m c)
        · exact (Vf_arg m c main_arg1 (by decide) (by decide)).trans (V_main_arg1 m c)
        · exact (Vf_arg m c main_arg2 (by decide) (by decide)).trans (V_main_arg2 m c),
      sem_eq_zero hs fun c sm hsm => by
        obtain rfl := unscoped_eq sm hsm
        exact (h c).2⟩)

end Cert.Attn

end
-- ==== Proof.Softmax.lean ====
/-
The arithmetic between the two programs, over the extended reals and away from any buffer: a weighted sum whose weights
are exponentials less the row's maximum, each divided by the row's total, is the plain sum of exponentials times one over
their plain total; and a row of 1024 is its two halves. The scores are real numbers; the weighted values are anything.
-/
module

public import Idealize.ShloMosaic.Lib.Pointwise
public import Idealize.ShloMosaic.Lib.IdealHost

@[expose] public section

noncomputable section

namespace Cert.Attn

open Idealize.ShloMosaic

/-! ## The constants the two programs name -/

theorem eighth_bf16 : Ideal.ofBits .bf16 0x3E00#16 = ((1 / 8 : ℝ) : EReal) := by
  simp [Ideal.ofBits, Ideal.ieee, -EReal.coe_mul]
  norm_num

theorem eighth_f32 : Ideal.ofBits .f32 0x3E000000#32 = ((1 / 8 : ℝ) : EReal) := by
  simp [Ideal.ofBits, Ideal.ieee, -EReal.coe_mul]
  norm_num

theorem bot_f32 : Ideal.ofBits .f32 0xFF800000#32 = ⊥ := by
  simp [Ideal.ofBits, Ideal.ieee, -EReal.coe_mul]

theorem top_bf16 : Ideal.ofBits .bf16 0x7F80#16 = ⊤ := by
  simp [Ideal.ofBits, Ideal.ieee, -EReal.coe_mul]

/-! ## Sums of real numbers -/

theorem coe_sum {ι : Type} (s : Finset ι) (f : ι → ℝ) : ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-- A real factor that is not negative comes out of a sum of anything. -/
theorem sum_mul_coe {ι : Type} (s : Finset ι) (f : ι → EReal) (r : ℝ) (hr : 0 ≤ r) :
    ∑ k ∈ s, f k * (r : EReal) = (∑ k ∈ s, f k) * (r : EReal) := by
  induction s using Finset.cons_induction with
  | empty => simp
  | cons a s ha ih =>
    rw [Finset.sum_cons, Finset.sum_cons, ih,
      EReal.right_distrib_of_nonneg_of_ne_top (EReal.coe_nonneg.2 hr) (EReal.coe_ne_top r)]

/-- The greatest of finitely many real numbers, at least one, taken from −∞, is a real number. -/
theorem fold_max_real {ι : Type} [Fintype ι] [Nonempty ι] (s : ι → ℝ) :
    ∃ μ : ℝ, (Finset.univ : Finset ι).fold max (⊥ : EReal) (fun k => (s k : EReal)) = (μ : EReal) := by
  obtain ⟨i, _, hi⟩ := Finset.exists_mem_eq_sup (Finset.univ : Finset ι) Finset.univ_nonempty (fun k => (s k : EReal))
  exact ⟨s i, hi⟩

theorem div_coe (x : EReal) (r : ℝ) (hr : r ≠ 0) : Ideal.div x (r : EReal) = x * ((r⁻¹ : ℝ) : EReal) := by
  unfold Ideal.div
  rw [if_neg (by simpa using hr), EReal.coe_inv]

/-! ## The law -/

/-- The reference's row against the kernel's. -/
theorem softmax_row {ι : Type} [Fintype ι] [Nonempty ι] (s : ι → ℝ) (v : ι → EReal) (M : EReal)
    (hM : M = (Finset.univ : Finset ι).fold max (⊥ : EReal) (fun k => (s k : EReal))) :
    ∑ k, v k * Ideal.div (Ideal.exp ((s k : EReal) - M)) (∑ k', Ideal.exp ((s k' : EReal) - M))
      = (∑ k, v k * Ideal.exp (s k : EReal)) * Ideal.div 1 (∑ k, Ideal.exp (s k : EReal)) := by
  obtain ⟨μ, hμ⟩ := fold_max_real s
  rw [hM, hμ]
  have he : ∀ k, Ideal.exp ((s k : EReal) - (μ : EReal)) = ((Real.exp (s k - μ) : ℝ) : EReal) := fun k => by
    rw [← EReal.coe_sub, Ideal.exp_coe]
  simp only [he, Ideal.exp_coe, coe_sum]
  have hL : 0 < ∑ k, Real.exp (s k) := Finset.sum_pos (fun k _ => Real.exp_pos _) Finset.univ_nonempty
  have hLμ : ∑ k, Real.exp (s k - μ) = (∑ k, Real.exp (s k)) * Real.exp (-μ) := by
    rw [Finset.sum_mul]
    exact Finset.sum_congr rfl fun k _ => by rw [← Real.exp_add, sub_eq_add_neg]
  have hLμ0 : ∑ k, Real.exp (s k - μ) ≠ 0 := by
    rw [hLμ]; exact mul_ne_zero hL.ne' (Real.exp_pos _).ne'
  rw [div_coe _ _ hL.ne', one_mul, ← sum_mul_coe _ _ _ (inv_nonneg.2 hL.le)]
  refine Finset.sum_congr rfl fun k _ => ?_
  rw [div_coe _ _ hLμ0, mul_assoc, ← EReal.coe_mul, ← EReal.coe_mul]
  refine congrArg (fun r : ℝ => v k * (r : EReal)) ?_
  rw [hLμ, sub_eq_add_neg, Real.exp_add, mul_inv]
  have := (Real.exp_pos (-μ)).ne'
  field_simp

/-- A sum over 1024 is the sum over its first half and over its second. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

/-- The same with the halves named by a coordinate `x`, half `x` first. -/
theorem sum_halves_at (x : ℕ) (hx : x < 2) (f : Fin 1024 → EReal) :
    ∑ k, f k = (∑ k : Fin 512, f ⟨512 * x + k.val, by omega⟩) + ∑ k : Fin 512, f ⟨512 * (1 - x) + k.val, by omega⟩ := by
  rw [sum_halves]
  obtain rfl | rfl : x = 0 ∨ x = 1 := by omega
  · exact congrArg₂ (· + ·) (Finset.sum_congr rfl fun k _ => congrArg f (Fin.ext (by simp)))
      (Finset.sum_congr rfl fun k _ => congrArg f (Fin.ext (by simp)))
  · rw [add_comm]
    exact congrArg₂ (· + ·) (Finset.sum_congr rfl fun k _ => congrArg f (Fin.ext (by simp)))
      (Finset.sum_congr rfl fun k _ => congrArg f (Fin.ext (by simp)))

/-! ## The scores -/

/-- The score of key `k` for a query, the query scaled first: a sum over the 64 features. -/
def kscore (q k : Fin 64 → EReal) : EReal := ∑ d, k d * (q d * ((1 / 8 : ℝ) : EReal))

/-- Over real numbers it does not matter which side the scale is on. -/
theorem scores_eq (q k : Fin 64 → ℝ) :
    (∑ e, (q e : EReal) * (k e : EReal)) * ((1 / 8 : ℝ) : EReal) = (((∑ e, q e * k e) * (1 / 8) : ℝ) : EReal)
    ∧ kscore (fun e => (q e : EReal)) (fun e => (k e : EReal)) = (((∑ e, q e * k e) * (1 / 8) : ℝ) : EReal) := by
  unfold kscore
  simp only [← EReal.coe_mul, coe_sum]
  refine ⟨trivial, congrArg _ ?_⟩
  rw [Finset.sum_mul]
  exact Finset.sum_congr rfl fun e _ => by ring

end Cert.Attn

end
-- ==== Proof.KernelValue.lean ====
/-
The kernel's result at one element: the stores of a head, read through the payloads, are the sums over the two halves of
the keys, and every load of a head is an element of some device's argument block.
-/
module

public import proofs.«01_k».proof.Proof.Launch
public import proofs.«01_k».proof.Proof.Softmax

@[expose] public section

set_option maxRecDepth 16384

noncomputable section

namespace Cert.Attn

open Cert.KernelIdeal Cert.KernelIdeal.Gen
open Idealize.ShloMosaic
open Idealize.ShloMosaic.TcCoe

/-- One head's store at feature `d`, query `t`. -/
theorem pay_apply (q k v : FVec Ideal S1x1x64x512 .bf16) (k1 : FVec Ideal S1x1x1x64x512 .bf16) (v1 : FVec Ideal S1x1x1x64x512 .fp8e4m3)
    (d : Fin 64) (t : Fin 512) :
    k0_pay81 (F := Ideal) (k0_pay10 q) (k0_pay12 q k) (k0_pay13 q k v) k1 v1 (ix4 0 0 d t)
      = ((∑ x : Fin 512, v (ix4 0 0 d x) * Ideal.exp (kscore (fun e => q (ix4 0 0 e t)) (fun e => k (ix4 0 0 e x))))
          + ∑ x : Fin 512, v1 (ix5 0 0 0 d x) * Ideal.exp (kscore (fun e => q (ix4 0 0 e t)) (fun e => k1 (ix5 0 0 0 e x))))
        * Ideal.div 1
            ((∑ x : Fin 512, Ideal.exp (kscore (fun e => q (ix4 0 0 e t)) (fun e => k (ix4 0 0 e x))))
              + ∑ x : Fin 512, Ideal.exp (kscore (fun e => q (ix4 0 0 e t)) (fun e => k1 (ix5 0 0 0 e x)))) := by
  unfold kscore
  rw [← eighth_bf16]
  pointwise [k0_pay81, k0_pay10, k0_pay12, k0_pay13, k0_pay11]

variable (m : (ℓ : Loc nD τ sig) → Buf (Elt Ideal) ℓ)

/-! ## What the staged inputs are -/

/-- Device `c`'s blocks of the three arguments. -/
def argQ (c : Dev nD) : FVec Ideal S2x512x8x64 .bf16 := m ((c : Thread nD τ).loc main_arg0)
def argK (c : Dev nD) : FVec Ideal S2x512x8x64 .bf16 := m ((c : Thread nD τ).loc main_arg1)
def argV (c : Dev nD) : FVec Ideal S2x512x8x64 .bf16 := m ((c : Thread nD τ).loc main_arg2)

theorem qst_eq (c : Dev nD) : qst m c = transpose S2x8x64x512 [0, 2, 3, 1] (argQ m c) transposes_S2x512x8x64_S2x8x64x512_0_2_3_1 := by
  show StableHlo.after (List.flatten [hostOps0]) (fun b => m (c, b)) (Proc.devRef .tc main_v1) = _
  simp only [hostOps0, List.flatten_cons, List.flatten_nil, List.append_nil]
  after_results
  rfl
theorem kst_eq (c : Dev nD) : kst m c = transpose S2x8x64x512 [0, 2, 3, 1] (argK m c) transposes_S2x512x8x64_S2x8x64x512_0_2_3_1 := by
  show StableHlo.after (List.flatten [hostOps0]) (fun b => m (c, b)) (Proc.devRef .tc main_v2) = _
  simp only [hostOps0, List.flatten_cons, List.flatten_nil, List.append_nil]
  after_results
  rfl
theorem vst_eq (c : Dev nD) : vst m c = transpose S2x8x64x512 [0, 2, 3, 1] (argV m c) transposes_S2x512x8x64_S2x8x64x512_0_2_3_1 := by
  show StableHlo.after (List.flatten [hostOps0]) (fun b => m (c, b)) (Proc.devRef .tc main_v3) = _
  simp only [hostOps0, List.flatten_cons, List.flatten_nil, List.append_nil]
  after_results
  rfl

theorem qst_apply (c : Dev nD) (b : Fin 2) (h : Fin 8) (d : Fin 64) (t : Fin 512) : qst m c (ix4 b h d t) = argQ m c (ix4 b t h d) := by
  rw [qst_eq]; pointwise
theorem kst_apply (c : Dev nD) (b : Fin 2) (h : Fin 8) (d : Fin 64) (t : Fin 512) : kst m c (ix4 b h d t) = argK m c (ix4 b t h d) := by
  rw [kst_eq]; pointwise
theorem vst_apply (c : Dev nD) (b : Fin 2) (h : Fin 8) (d : Fin 64) (t : Fin 512) : vst m c (ix4 b h d t) = argV m c (ix4 b t h d) := by
  rw [vst_eq]; pointwise

/-! ## What a load of one head reads -/

theorem idxQ (b : Fin 2) (h : Fin 8) (d : Fin 64) (t : Fin 512) :
    (rQ ![b.val, h.val, 0, 0] (inbQ b h)).idx (ix4 0 0 d t) = (ix4 b h d t : I4) := by
  funext a
  refine Fin.ext ?_
  match a with
  | 0 => show b.val + 1 * 0 = b.val; omega
  | 1 => show h.val + 1 * 0 = h.val; omega
  | 2 => show 0 + 1 * d.val = d.val; omega
  | 3 => show 0 + 1 * t.val = t.val; omega

theorem idxH (b : Fin 2) (h : Fin 8) (d : Fin 64) (t : Fin 512) :
    tail4 ((rH ![1, b.val, h.val, 0, 0] (inbH b h)).idx (ix5 0 0 0 d t)) = (ix4 b h d t : I4) := by
  funext a
  refine Fin.ext ?_
  match a with
  | 0 => show b.val + 1 * 0 = b.val; omega
  | 1 => show h.val + 1 * 0 = h.val; omega
  | 2 => show 0 + 1 * d.val = d.val; omega
  | 3 => show 0 + 1 * t.val = t.val; omega

theorem qld_apply (c : Dev nD) (b : Fin 2) (h : Fin 8) (d : Fin 64) (t : Fin 512) : qld m c b h (ix4 0 0 d t) = argQ m c (ix4 b t h d) :=
  (congrArg (qst m c) (idxQ b h d t)).trans (qst_apply m c b h d t)
theorem kld_apply (c : Dev nD) (b : Fin 2) (h : Fin 8) (d : Fin 64) (t : Fin 512) : kld m c b h (ix4 0 0 d t) = argK m c (ix4 b t h d) :=
  (congrArg (kst m c) (idxQ b h d t)).trans (kst_apply m c b h d t)
theorem vld_apply (c : Dev nD) (b : Fin 2) (h : Fin 8) (d : Fin 64) (t : Fin 512) : vld m c b h (ix4 0 0 d t) = argV m c (ix4 b t h d) :=
  (congrArg (vst m c) (idxQ b h d t)).trans (vst_apply m c b h d t)
theorem kld1_apply (c : Dev nD) (b : Fin 2) (h : Fin 8) (d : Fin 64) (t : Fin 512) :
    kld1 m c b h (ix5 0 0 0 d t) = argK m (src c b.val) (ix4 b t h d) :=
  (congrArg (kst m (src c b.val)) (idxH b h d t)).trans (kst_apply m _ b h d t)
/-- The narrow format is the same extended real. -/
theorem vld1_apply (c : Dev nD) (b : Fin 2) (h : Fin 8) (d : Fin 64) (t : Fin 512) :
    vld1 m c b h (ix5 0 0 0 d t) = argV m (src c b.val) (ix4 b t h d) :=
  (congrArg (vst m (src c b.val)) (idxH b h d t)).trans (vst_apply m _ b h d t)

/-! ## The result -/

/-- Device `c`'s result at batch `b`, query `t`, head `h`, feature `d`. -/
theorem outT_apply (c : Dev nD) (b : Fin 2) (t : Fin 512) (h : Fin 8) (d : Fin 64) :
    (outT m c : FVec Ideal S2x512x8x64 .f32) (ix4 b t h d)
      = ((∑ x : Fin 512, argV m c (ix4 b x h d)
            * Ideal.exp (kscore (fun e => argQ m c (ix4 b t h e)) (fun e => argK m c (ix4 b x h e))))
          + ∑ x : Fin 512, argV m (src c b.val) (ix4 b x h d)
            * Ideal.exp (kscore (fun e => argQ m c (ix4 b t h e)) (fun e => argK m (src c b.val) (ix4 b x h e))))
        * Ideal.div 1
            ((∑ x : Fin 512, Ideal.exp (kscore (fun e => argQ m c (ix4 b t h e)) (fun e => argK m c (ix4 b x h e))))
              + ∑ x : Fin 512, Ideal.exp (kscore (fun e => argQ m c (ix4 b t h e)) (fun e => argK m (src c b.val) (ix4 b x h e)))) := by
  have h1 : (outT m c : FVec Ideal S2x512x8x64 .f32) (ix4 b t h d) = (oImg m c : FVec Ideal S2x8x64x512 .f32) (ix4 b h d t) := by
    unfold outT; pointwise
  have h2 : (oImg m c : FVec Ideal S2x8x64x512 .f32) (ix4 b h d t) = OUTP m c b h (ix4 0 0 d t) := by
    refine congrArg (OUTP m c b h) ?_
    funext a
    match a with
    | 0 => rfl
    | 1 => rfl
    | 2 => rfl
    | 3 => rfl
  rw [h1, h2]
  unfold OUTP
  rw [pay_apply]
  simp only [qld_apply, kld_apply, vld_apply, kld1_apply, vld1_apply]

end Cert.Attn

end
-- ==== Proof.RefValue.lean ====
/-
The reference's result at one element, and the law between it and the two halves the kernel sums.
-/
module

public import proofs.«01_k».proof.ReferenceIdeal
public import proofs.«01_k».proof.Proof.Gen.ReferenceIdeal
public import proofs.«01_k».proof.Proof.Softmax

@[expose] public section

set_option maxRecDepth 16384

noncomputable section

namespace Cert.Attn

open Cert.ReferenceIdeal Cert.ReferenceIdeal.Gen
open Idealize.ShloMosaic

/-- The reference's result, of the three arguments. -/
def refOut (Q K V : FVec Ideal S2x1024x8x64 .bf16) : FVec Ideal S2x1024x8x64 .f32 :=
  transpose S2x1024x8x64 [0, 3, 1, 2] (Host.dotGeneral dot_S2x1024x8x64_S2x8x1024x1024_S2x8x64x1024_1_3_3_2_02_01 none (extf .f32 V bitsLt_bf16_f32) (Host.divf (Host.exp (subf (mulf (Host.dotGeneral dot_S2x1024x8x64_S2x1024x8x64_S2x8x1024x1024_3_3_1_1_02_02 none (extf .f32 Q bitsLt_bf16_f32) (extf .f32 K bitsLt_bf16_f32)) (broadcastInDim S2x8x1024x1024 ![] bcast_S_S2x8x1024x1024 (constant S_ .f32 0x3E000000#32))) (broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduce FloatOps.maximumf (mulf (Host.dotGeneral dot_S2x1024x8x64_S2x1024x8x64_S2x8x1024x1024_3_3_1_1_02_02 none (extf .f32 Q bitsLt_bf16_f32) (extf .f32 K bitsLt_bf16_f32)) (broadcastInDim S2x8x1024x1024 ![] bcast_S_S2x8x1024x1024 (constant S_ .f32 0x3E000000#32))) (constant S_ .f32 0xFF800000#32) reducesTo_S2x8x1024x1024_S2x8x1024_d3 h_S_))))) (broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduceAdd (Host.exp (subf (mulf (Host.dotGeneral dot_S2x1024x8x64_S2x1024x8x64_S2x8x1024x1024_3_3_1_1_02_02 none (extf .f32 Q bitsLt_bf16_f32) (extf .f32 K bitsLt_bf16_f32)) (broadcastInDim S2x8x1024x1024 ![] bcast_S_S2x8x1024x1024 (constant S_ .f32 0x3E000000#32))) (broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduce FloatOps.maximumf (mulf (Host.dotGeneral dot_S2x1024x8x64_S2x1024x8x64_S2x8x1024x1024_3_3_1_1_02_02 none (extf .f32 Q bitsLt_bf16_f32) (extf .f32 K bitsLt_bf16_f32)) (broadcastInDim S2x8x1024x1024 ![] bcast_S_S2x8x1024x1024 (constant S_ .f32 0x3E000000#32))) (constant S_ .f32 0xFF800000#32) reducesTo_S2x8x1024x1024_S2x8x1024_d3 h_S_))))) (constant S_ .f32 0x00000000#32) reducesTo_S2x8x1024x1024_S2x8x1024_d3 h_S_))))) transposes_S2x8x64x1024_S2x1024x8x64_0_3_1_2

/-- The reference's result at one element: the weights' exponentials less the greatest score, over their total. -/
theorem ref_apply (Q K V : FVec Ideal S2x1024x8x64 .bf16) (b : Fin 2) (t : Fin 1024) (h : Fin 8) (d : Fin 64)
    (s : Fin 1024 → EReal) (hs : ∀ x, (∑ e : Fin 64, Q (ix4 b t h e) * K (ix4 b x h e)) * ((1 / 8 : ℝ) : EReal) = s x) :
    refOut Q K V (ix4 b t h d)
      = ∑ x : Fin 1024, V (ix4 b x h d)
          * Ideal.div (Ideal.exp (s x - (Finset.univ : Finset (Fin 1024)).fold max ⊥ s))
              (∑ x' : Fin 1024, Ideal.exp (s x' - (Finset.univ : Finset (Fin 1024)).fold max ⊥ s)) := by
  have e : s = fun x => (∑ e : Fin 64, Q (ix4 b t h e) * K (ix4 b x h e)) * ((1 / 8 : ℝ) : EReal) := funext fun x => (hs x).symm
  rw [e, ← eighth_f32, ← bot_f32]
  pointwise [refOut]

/-- The same as the kernel sums it, the half of the keys named by `x` first. -/
theorem ref_halves (Q K V : FVec Ideal S2x1024x8x64 .bf16) (hQ : ∀ i, ∃ r : ℝ, Q i = (r : EReal)) (hK : ∀ i, ∃ r : ℝ, K i = (r : EReal))
    (x : ℕ) (hx : x < 2) (b : Fin 2) (t : Fin 1024) (h : Fin 8) (d : Fin 64) :
    refOut Q K V (ix4 b t h d)
      = ((∑ y : Fin 512, V (ix4 b ⟨512 * x + y.val, by omega⟩ h d)
            * Ideal.exp (kscore (fun e => Q (ix4 b t h e)) (fun e => K (ix4 b ⟨512 * x + y.val, by omega⟩ h e))))
          + ∑ y : Fin 512, V (ix4 b ⟨512 * (1 - x) + y.val, by omega⟩ h d)
            * Ideal.exp (kscore (fun e => Q (ix4 b t h e)) (fun e => K (ix4 b ⟨512 * (1 - x) + y.val, by omega⟩ h e))))
        * Ideal.div 1
            ((∑ y : Fin 512, Ideal.exp (kscore (fun e => Q (ix4 b t h e)) (fun e => K (ix4 b ⟨512 * x + y.val, by omega⟩ h e))))
              + ∑ y : Fin 512, Ideal.exp (kscore (fun e => Q (ix4 b t h e)) (fun e => K (ix4 b ⟨512 * (1 - x) + y.val, by omega⟩ h e)))) := by
  choose q hq using hQ
  choose k hk using hK
  have hs : ∀ y : Fin 1024, (∑ e : Fin 64, Q (ix4 b t h e) * K (ix4 b y h e)) * ((1 / 8 : ℝ) : EReal)
      = (((∑ e : Fin 64, q (ix4 b t h e) * k (ix4 b y h e)) * (1 / 8) : ℝ) : EReal) := fun y => by
    simp only [hq, hk]
    exact (scores_eq (fun e => q (ix4 b t h e)) (fun e => k (ix4 b y h e))).1
  have hk' : ∀ y : Fin 1024, kscore (fun e => Q (ix4 b t h e)) (fun e => K (ix4 b y h e))
      = (((∑ e : Fin 64, q (ix4 b t h e) * k (ix4 b y h e)) * (1 / 8) : ℝ) : EReal) := fun y => by
    simp only [hq, hk]
    exact (scores_eq (fun e => q (ix4 b t h e)) (fun e => k (ix4 b y h e))).2
  rw [ref_apply Q K V b t h d _ hs, softmax_row _ _ _ rfl]
  simp only [← hk']
  rw [sum_halves_at x hx (fun y => V (ix4 b y h d) * Ideal.exp (kscore (fun e => Q (ix4 b t h e)) (fun e => K (ix4 b y h e)))),
    sum_halves_at x hx (fun y => Ideal.exp (kscore (fun e => Q (ix4 b t h e)) (fun e => K (ix4 b y h e))))]

end Cert.Attn

end
-- ==== Proof.Value.lean ====
/-
The two programs' results: device `c`'s result is the block of the reference's result that the mesh gives it, where every
query and every key is a real number.
-/
module

public import proofs.«01_k».proof.Defs
public import proofs.«01_k».proof.Proof.KernelValue
public import proofs.«01_k».proof.Proof.RefValue
public import proofs.«01_k».proof.Proof.Gen.ReferenceIdeal.Run

@[expose] public section

set_option maxRecDepth 16384

noncomputable section

namespace Cert.Attn

open Idealize.ShloMosaic Idealize.SL.Sem
open Idealize.ShloMosaic.TcCoe

/-! ## Blocks of the mesh -/

/-- The block of rows device `c` holds is the one its first coordinate names. -/
theorem mesh_row (c : Fin 16) : Layout.meshLin [2, 2, 4] c.val [0] = c.val / 8 := by revert c; decide

/-- Whose keys device `c` receives: its first coordinate is the other one. -/
theorem src_row (c : Dev Cert.KernelIdeal.nD) (b : Fin 2) : (src c b.val).val / 8 = 1 - c.val / 8 := by
  revert c b; decide

theorem row_lt (c : Dev Cert.KernelIdeal.nD) : c.val / 8 < 2 := by
  have := c.isLt
  change _ < 16 at this
  omega

/-- A device's element of an array cut into two blocks of rows. -/
theorem block_apply {α : Type} (c : Dev Cert.KernelIdeal.nD) (X : (⟨4, ![2, 1024, 8, 64]⟩ : Shape).Idx → α) (b : Fin 2) (t : Fin 512)
    (h : Fin 8) (d : Fin 64) (hr : 512 * (c.val / 8) + t.val < 1024) :
    (Layout.blockN ⟨4, ![2, 512, 8, 64]⟩ ⟨4, ![2, 1024, 8, 64]⟩ (Layout.meshBlock [2, 2, 4] ![[], [0], [], []] c) X) (ix4 b t h d)
      = X (ix4 b ⟨512 * (c.val / 8) + t.val, hr⟩ h d) := by
  rw [Layout.blockN_apply]
  refine congrArg X ?_
  funext a
  refine Fin.ext ?_
  rw [Layout.TilesN.idx_val]
  match a with
  | 0 => show 0 * 2 + b.val = b.val; omega
  | 1 =>
    show Layout.meshLin [2, 2, 4] c.val [0] * 512 + t.val = 512 * (c.val / 8) + t.val
    rw [mesh_row]; omega
  | 2 => show 0 * 8 + h.val = h.val; omega
  | 3 => show 0 * 64 + d.val = d.val; omega

/-! ## The precondition -/

theorem pre_facts : Cert.Pre_finite_qk_KernelIdeal.Facts := ⟨by decide⟩
theorem pre_facts_ref : Cert.Pre_finite_qk_ReferenceIdeal.Facts := ⟨by decide⟩

/-- An extended real whose size is below +∞ is a real number. -/
theorem real_of_abs_lt (x : EReal) (h : max x (-x) < ⊤) : ∃ r : ℝ, x = (r : EReal) := by
  induction x with
  | bot => simp at h
  | coe r => exact ⟨r, rfl⟩
  | top => simp at h

theorem real_of_cmp (x : EReal) (h : Ideal.cmp .olt (max x (-x)) ⊤ = 1#1) : ∃ r : ℝ, x = (r : EReal) := by
  refine real_of_abs_lt x ?_
  unfold Ideal.cmp at h
  by_contra hn
  simp [hn] at h

theorem real_of_pre [Cert.Pre_finite_qk_KernelIdeal.Facts] (m : (ℓ : Loc Cert.KernelIdeal.nD Cert.KernelIdeal.τ Cert.KernelIdeal.sig) → Buf (Elt Ideal) ℓ)
    (h : Cert.Pre_KernelIdeal_finite_qk_KernelIdeal m) (c : Dev Cert.KernelIdeal.nD) (b : Fin 2) (t : Fin 512) (e : Fin 8) (d : Fin 64) :
    (∃ r : ℝ, argQ m c (ix4 b t e d) = (r : EReal)) ∧ ∃ r : ℝ, argK m c (ix4 b t e d) = (r : EReal) := by
  obtain ⟨hq, hk⟩ := h c
  have hq := congrFun hq (ix4 b t e d)
  have hk := congrFun hk (ix4 b t e d)
  pointwise [Cert.Pre_finite_qk_KernelIdeal.fn] at hq
  pointwise [Cert.Pre_finite_qk_KernelIdeal.fn] at hk
  rw [top_bf16] at hq hk
  exact ⟨real_of_cmp _ hq, real_of_cmp _ hk⟩

/-- The device that holds row `t` of a whole array, its other coordinates zero. -/
def rowDev (t : ℕ) (ht : t < 1024) : Dev Cert.KernelIdeal.nD := ⟨8 * (t / 512), by show _ < 16; omega⟩

/-- An array whose every block is of real numbers is of real numbers. -/
theorem real_whole (X : (⟨4, ![2, 1024, 8, 64]⟩ : Shape).Idx → EReal)
    (h : ∀ (c : Dev Cert.KernelIdeal.nD) (b : Fin 2) (t : Fin 512) (e : Fin 8) (d : Fin 64), ∃ r : ℝ,
      (Layout.blockN ⟨4, ![2, 512, 8, 64]⟩ ⟨4, ![2, 1024, 8, 64]⟩ (Layout.meshBlock [2, 2, 4] ![[], [0], [], []] c) X) (ix4 b t e d) = (r : EReal))
    (i : (⟨4, ![2, 1024, 8, 64]⟩ : Shape).Idx) : ∃ r : ℝ, X i = (r : EReal) := by
  obtain ⟨b, t, e, d, rfl⟩ : ∃ (b : Fin 2) (t : Fin 1024) (e : Fin 8) (d : Fin 64), i = ix4 b t e d := ⟨i 0, i 1, i 2, i 3, eq_ix4 i⟩
  have hc : (rowDev t.val t.isLt).val / 8 = t.val / 512 := by
    show 8 * (t.val / 512) / 8 = _
    omega
  have ht := t.isLt
  obtain ⟨r, hr⟩ := h (rowDev t.val t.isLt) b ⟨t.val % 512, Nat.mod_lt _ (by decide)⟩ e d
  rw [block_apply _ X b _ e d (by rw [hc]; show 512 * (t.val / 512) + t.val % 512 < 1024; omega)] at hr
  refine ⟨r, (congrArg X ?_).trans hr⟩
  refine congrArg (fun u => ix4 b u e d) (Fin.ext ?_)
  show t.val = 512 * ((rowDev t.val t.isLt).val / 8) + t.val % 512
  rw [hc]; omega

/-! ## The claim -/

/-- Device `c`'s result is its block of the reference's. -/
theorem out_eq (m : (ℓ : Loc Cert.KernelIdeal.nD Cert.KernelIdeal.τ Cert.KernelIdeal.sig) → Buf (Elt Ideal) ℓ)
    (Q K V : FVec Ideal Cert.ReferenceIdeal.S2x1024x8x64 .bf16)
    (hQ : ∀ c, argQ m c = Layout.blockN ⟨4, ![2, 512, 8, 64]⟩ ⟨4, ![2, 1024, 8, 64]⟩ (Layout.meshBlock [2, 2, 4] ![[], [0], [], []] c) Q)
    (hK : ∀ c, argK m c = Layout.blockN ⟨4, ![2, 512, 8, 64]⟩ ⟨4, ![2, 1024, 8, 64]⟩ (Layout.meshBlock [2, 2, 4] ![[], [0], [], []] c) K)
    (hV : ∀ c, argV m c = Layout.blockN ⟨4, ![2, 512, 8, 64]⟩ ⟨4, ![2, 1024, 8, 64]⟩ (Layout.meshBlock [2, 2, 4] ![[], [0], [], []] c) V)
    (rQ : ∀ i, ∃ r : ℝ, Q i = (r : EReal)) (rK : ∀ i, ∃ r : ℝ, K i = (r : EReal)) (c : Dev Cert.KernelIdeal.nD) :
    (outT m c : FVec Ideal Cert.KernelIdeal.S2x512x8x64 .f32)
      = Layout.blockN ⟨4, ![2, 512, 8, 64]⟩ ⟨4, ![2, 1024, 8, 64]⟩ (Layout.meshBlock [2, 2, 4] ![[], [0], [], []] c) (refOut Q K V) := by
  funext i
  obtain ⟨b, t, h, d, rfl⟩ : ∃ (b : Fin 2) (t : Fin 512) (h : Fin 8) (d : Fin 64), i = ix4 b t h d := ⟨i 0, i 1, i 2, i 3, eq_ix4 i⟩
  have hx := row_lt c
  have ht := t.isLt
  have own : ∀ (X : (⟨4, ![2, 1024, 8, 64]⟩ : Shape).Idx → EReal) (y : Fin 512) (e : Fin 64),
      (Layout.blockN ⟨4, ![2, 512, 8, 64]⟩ ⟨4, ![2, 1024, 8, 64]⟩ (Layout.meshBlock [2, 2, 4] ![[], [0], [], []] c) X) (ix4 b y h e)
        = X (ix4 b ⟨512 * (c.val / 8) + y.val, by omega⟩ h e) := fun X y e => block_apply c X b y h e _
  have other : ∀ (X : (⟨4, ![2, 1024, 8, 64]⟩ : Shape).Idx → EReal) (y : Fin 512) (e : Fin 64),
      (Layout.blockN ⟨4, ![2, 512, 8, 64]⟩ ⟨4, ![2, 1024, 8, 64]⟩ (Layout.meshBlock [2, 2, 4] ![[], [0], [], []] (src c b.val)) X) (ix4 b y h e)
        = X (ix4 b ⟨512 * (1 - c.val / 8) + y.val, by omega⟩ h e) := fun X y e => by
    rw [block_apply (src c b.val) X b y h e (by rw [src_row]; omega)]
    refine congrArg (fun u => X (ix4 b u h e)) (Fin.ext ?_)
    show 512 * ((src c b.val).val / 8) + y.val = 512 * (1 - c.val / 8) + y.val
    rw [src_row]
  rw [outT_apply, own, ref_halves Q K V rQ rK (c.val / 8) hx]
  simp only [hQ, hK, hV, own, other]

theorem algebraic [Cert.Pre_finite_qk_KernelIdeal.Facts] :
    Cert.algebraic_KernelIdeal_ReferenceIdeal_pre_finite_qk_KernelIdeal := by
  intro m g m' g' hpre hargs
  have rQ := real_whole (m' (((0 : Dev Cert.ReferenceIdeal.nD).tc : Thread Cert.ReferenceIdeal.nD Cert.ReferenceIdeal.τ).loc Cert.ReferenceIdeal.main_arg0))
    (fun c b t e d => by rw [← (hargs c).1]; exact (real_of_pre m hpre c b t e d).1)
  have rK := real_whole (m' (((0 : Dev Cert.ReferenceIdeal.nD).tc : Thread Cert.ReferenceIdeal.nD Cert.ReferenceIdeal.τ).loc Cert.ReferenceIdeal.main_arg1))
    (fun c b t e d => by rw [← (hargs c).2.1]; exact (real_of_pre m hpre c b t e d).2)
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨(h.1 c).1.trans ?_, (h.1 c).2⟩) (run_main (F := Ideal) m g)
    exact out_eq m _ _ _ (fun c => (hargs c).1) (fun c => (hargs c).2.1) (fun c => (hargs c).2.2) rQ rK c
  · exact (θ_run Cert.ReferenceIdeal.defs _ _).mono (fun r h => h 0) (Cert.ReferenceIdeal.Value.run m' g')

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The two texts of the kernel have one body table. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
theorem defs_eq : Cert.Kernel.defs (F := Bits) = Cert.KernelIdeal.defs (F := Bits) :=
  congrArg (Pipeline.defs (Cert.KernelIdeal.pcfgs (F := Bits))) table_eq

/-- The kernel at the machine's floats: the run is stated over any floats, so it is the same run. -/
theorem frame_kernel : Cert.quiescent_Kernel := by
  intro m ρ _
  rw [defs_eq]
  exact (θ_run (Cert.KernelIdeal.defs (F := Bits)) _ _).mono (fun _ h => ⟨fun c => (h.1 c).2, h.2⟩) (Cert.Attn.run_main (F := Bits) m ρ)

/-- The kernel at the extended reals. -/
theorem frame_kernelIdeal : Cert.quiescent_KernelIdeal := fun m ρ _ =>
  (θ_run Cert.KernelIdeal.defs _ _).mono (fun _ h => ⟨fun c => (h.1 c).2, h.2⟩) (Cert.Attn.run_main (F := Ideal) m ρ)

/-- The reference: one device, no semaphore at all. -/
theorem frame_reference : Cert.quiescent_ReferenceIdeal := fun m ρ _ =>
  (θ_run Cert.ReferenceIdeal.defs _ _).mono
    (fun r h => ⟨fun c => ⟨(h c).2.1, (h c).2.2.1, (h c).2.2.2⟩, Idealize.ShloMosaic.sem_eq_zero_of_no_sems (by decide) r.2⟩)
    (Cert.ReferenceIdeal.Value.run (F := Ideal) m ρ)

theorem claim : Cert.Claim :=
  have := Cert.Attn.pre_facts
  have := Cert.Attn.pre_facts_ref
  ⟨Cert.Kernel.Gen.facts, Cert.KernelIdeal.Gen.facts, Cert.ReferenceIdeal.Gen.facts, Cert.Attn.pre_facts, Cert.Attn.pre_facts_ref,
    frame_kernel, frame_kernelIdeal, fun m ρ _ => frame_kernelIdeal m ρ trivial,
    frame_reference, fun m ρ _ => frame_reference m ρ trivial, trivial, Cert.Attn.algebraic⟩

end Cert.Proof

end
